-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel2_Kernel2Ideal : Prop :=
  IdealRules.named_const.Statement Cert.Kernel2Ideal.κ "mask" .f32 0xF149F2CA#32 ⊥

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v43_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal (hKernel2Ideal := hKernel2Ideal) (hReference2Ideal := hReference2Ideal)
-- ==== Kernel.lean ====
abbrev S8x4096x1024 : Shape := ⟨3, ![8, 4096, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S32768x1024 : Shape := ⟨2, ![32768, 1024]⟩
abbrev S1x2816 : Shape := ⟨2, ![1, 2816]⟩
abbrev S1x1024 : Shape := ⟨2, ![1, 1024]⟩
abbrev S512x1024 : Shape := ⟨2, ![512, 1024]⟩
abbrev S512x2816 : Shape := ⟨2, ![512, 2816]⟩
abbrev S2x520x256 : Shape := ⟨3, ![2, 520, 256]⟩
abbrev S8x2816 : Shape := ⟨2, ![8, 2816]⟩
abbrev S1024x256 : Shape := ⟨2, ![1024, 256]⟩
abbrev S512x256 : Shape := ⟨2, ![512, 256]⟩
abbrev S8x256 : Shape := ⟨2, ![8, 256]⟩
abbrev S1x520x256 : Shape := ⟨3, ![1, 520, 256]⟩
abbrev S520x256 : Shape := ⟨2, ![520, 256]⟩
abbrev S1x256 : Shape := ⟨2, ![1, 256]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S1024x5632, .bf16⟩
  | .hbm, ⟨9, _⟩ => ⟨S2816x1024, .bf16⟩
  | .hbm, ⟨10, _⟩ => ⟨S1x2816, .f32⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S3x2816, .f32⟩
  | .local _ .vmem, ⟨4, _⟩ => ⟨S1x2816, .f32⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | .local _ .vmem, ⟨11, _⟩ => ⟨S2x520x256, .f32⟩
  | .local _ .vmem, ⟨12, _⟩ => ⟨S8x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x4096x1024 : Shape := ⟨3, ![8, 4096, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S8x4096x5632 : Shape := ⟨3, ![8, 4096, 5632]⟩
abbrev S8x4096x2816 : Shape := ⟨3, ![8, 4096, 2816]⟩
abbrev S_ : Shape := ⟨0, ![]⟩
abbrev S8x4098x2816 : Shape := ⟨3, ![8, 4098, 2816]⟩
abbrev S1x2816 : Shape := ⟨2, ![1, 2816]⟩
abbrev S1x1x2816 : Shape := ⟨3, ![1, 1, 2816]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S8x4096x5632, .f32⟩
  | .hbm, ⟨8, _⟩ => ⟨S8x4096x2816, .f32⟩
  | .hbm, ⟨9, _⟩ => ⟨S8x4096x2816, .f32⟩
  | .hbm, ⟨10, _⟩ => ⟨S_, .i32⟩
  | .hbm, ⟨11, _⟩ => ⟨S_, .f32⟩
  | .hbm, ⟨12, _⟩ => ⟨S8x4098x2816, .f32⟩
  | .hbm, ⟨13, _⟩ => ⟨S8x4096x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S8x4096x2816, .f32⟩
  | .hbm, ⟨18, _⟩ => ⟨S8x4096x2816, .f32⟩
  | .hbm, ⟨19, _⟩ => ⟨S8x4096x2816, .f32⟩
  | .hbm, ⟨20, _⟩ => ⟨S1x2816, .f32⟩
  | .hbm, ⟨21, _⟩ => ⟨S2816, .f32⟩
  | .hbm, ⟨22, _⟩ => ⟨S1x1x2816, .f32⟩
  | .hbm, ⟨23, _⟩ => ⟨S8x4096x2816, .f32⟩
  | .hbm, ⟨24, _⟩ => ⟨S8x4096x2816, .f32⟩
  | .hbm, ⟨25, _⟩ => ⟨S8x4096x2816, .f32⟩
  | .hbm, ⟨26, _⟩ => ⟨S8x4096x2816, .f32⟩
  | .hbm, ⟨27, _⟩ => ⟨S1x2816, .f32⟩
  | .hbm, ⟨28, _⟩ => ⟨S2816, .f32⟩
  | .hbm, ⟨29, _⟩ => ⟨S1x1x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S1x1x2816, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S_, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S_, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S_, .f32⟩
  | .hbm, ⟨47, _⟩ => ⟨S8x4096x2816, .f32⟩
  | .hbm, ⟨48, _⟩ => ⟨S8x4096x2816, .f32⟩
  | .hbm, ⟨49, _⟩ => ⟨S_, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S8x4096x1024, .f32⟩
  | .hbm, ⟨55, _⟩ => ⟨S_, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S_, .f32⟩
  | .hbm, ⟨77, _⟩ => ⟨S8x4096x1, .f32⟩
  | .hbm, ⟨78, _⟩ => ⟨S8x4096x1, .f32⟩
  | .hbm, ⟨79, _⟩ => ⟨S8x4096x1, .f32⟩
  | .hbm, ⟨80, _⟩ => ⟨S8x4096x1024, .f32⟩
  | .hbm, ⟨81, _⟩ => ⟨S8x4096x1024, .f32⟩
  | .hbm, ⟨82, _⟩ => ⟨S1x1x1024, .f32⟩
  | .hbm, ⟨83, _⟩ => ⟨S8x4096x1024, .f32⟩
  | .hbm, ⟨84, _⟩ => ⟨S8x4096x1024, .f32⟩
  | .hbm, ⟨85, _⟩ => ⟨S1x1x1024, .f32⟩
  | .hbm, ⟨86, _⟩ => ⟨S8x4096x1024, .f32⟩
  | .hbm, ⟨87, _⟩ => ⟨S8x4096x1024, .f32⟩
  | .hbm, ⟨88, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024x3840 : Shape := ⟨2, ![1024, 3840]⟩
abbrev S3840 : Shape := ⟨1, ![3840]⟩
abbrev S_ : Shape := ⟨0, ![]⟩
abbrev S1x3840 : Shape := ⟨2, ![1, 3840]⟩
abbrev S32768x1024 : Shape := ⟨2, ![32768, 1024]⟩
abbrev S32768x1536 : Shape := ⟨2, ![32768, 1536]⟩
abbrev S32768x2304 : Shape := ⟨2, ![32768, 2304]⟩
abbrev S512x1024 : Shape := ⟨2, ![512, 1024]⟩
abbrev S512x1536 : Shape := ⟨2, ![512, 1536]⟩
abbrev S512x2304 : Shape := ⟨2, ![512, 2304]⟩
abbrev S1024x768 : Shape := ⟨2, ![1024, 768]⟩
abbrev S512x768 : Shape := ⟨2, ![512, 768]⟩

abbrev nBuf : Space → Nat
  | .hbm => 19
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S1024x3840, .f32⟩
  | .hbm, ⟨2, _⟩ => ⟨S3840, .i32⟩
  | .hbm, ⟨3, _⟩ => ⟨S_, .i32⟩
  | .hbm, ⟨4, _⟩ => ⟨S3840, .i32⟩
  | .hbm, ⟨5, _⟩ => ⟨S3840, .i1⟩
  | .hbm, ⟨6, _⟩ => ⟨S_, .f32⟩
  | .hbm, ⟨7, _⟩ => ⟨S_, .f32⟩
  | .hbm, ⟨8, _⟩ => ⟨S3840, .f32⟩
  | .hbm, ⟨9, _⟩ => ⟨S3840, .f32⟩
  | .hbm, ⟨10, _⟩ => ⟨S3840, .f32⟩
  | .hbm, ⟨11, _⟩ => ⟨S3840, .f32⟩
  | .hbm, ⟨12, _⟩ => ⟨S1x3840, .f32⟩
  | .hbm, ⟨13, _⟩ => ⟨S1024x3840, .f32⟩
  | .hbm, ⟨14, _⟩ => ⟨S1024x3840, .f32⟩
  | .hbm, ⟨15, _⟩ => ⟨S32768x1024, .f32⟩
  | .hbm, ⟨16, _⟩ => ⟨S1024x3840, .bf16⟩
  | .hbm, ⟨17, _⟩ => ⟨S32768x1536, .bf16⟩
  | .hbm, ⟨18, _⟩ => ⟨S32768x2304, .f32⟩
  | .local _ .vmem, ⟨0, _⟩ => ⟨S512x1024, .f32⟩
  | .local _ .vmem, ⟨1, _⟩ => ⟨S512x1024, .f32⟩
  | .local _ .vmem, ⟨2, _⟩ => ⟨S1024x3840, .bf16⟩
  | .local _ .vmem, ⟨3, _⟩ => ⟨S512x1536, .bf16⟩
  | .local _ .vmem, ⟨4, _⟩ => ⟨S512x1536, .bf16⟩
  | .local _ .vmem, ⟨5, _⟩ => ⟨S512x2304, .f32⟩
  | .local _ .vmem, ⟨6, _⟩ => ⟨S512x2304, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x4096x1024 : Shape := ⟨3, ![8, 4096, 1024]⟩
abbrev S1024x3840 : Shape := ⟨2, ![1024, 3840]⟩
abbrev S8x4096x3840 : Shape := ⟨3, ![8, 4096, 3840]⟩
abbrev S3840 : Shape := ⟨1, ![3840]⟩
abbrev S_ : Shape := ⟨0, ![]⟩
abbrev S1x1x3840 : Shape := ⟨3, ![1, 1, 3840]⟩
abbrev S32768x3840 : Shape := ⟨2, ![32768, 3840]⟩
abbrev S32768x1536 : Shape := ⟨2, ![32768, 1536]⟩
abbrev S32768x2304 : Shape := ⟨2, ![32768, 2304]⟩

abbrev nBuf : Space → Nat
  | .hbm => 20
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x3840, .f32⟩
  | .hbm, ⟨2, _⟩ => ⟨S8x4096x3840, .f32⟩
  | .hbm, ⟨3, _⟩ => ⟨S3840, .i32⟩
  | .hbm, ⟨4, _⟩ => ⟨S_, .i32⟩
  | .hbm, ⟨5, _⟩ => ⟨S3840, .i32⟩
  | .hbm, ⟨6, _⟩ => ⟨S3840, .i1⟩
  | .hbm, ⟨7, _⟩ => ⟨S_, .f32⟩
  | .hbm, ⟨8, _⟩ => ⟨S_, .f32⟩
  | .hbm, ⟨9, _⟩ => ⟨S3840, .f32⟩
  | .hbm, ⟨10, _⟩ => ⟨S3840, .f32⟩
  | .hbm, ⟨11, _⟩ => ⟨S3840, .f32⟩
  | .hbm, ⟨12, _⟩ => ⟨S3840, .f32⟩
  | .hbm, ⟨13, _⟩ => ⟨S1x1x3840, .f32⟩
  | .hbm, ⟨14, _⟩ => ⟨S8x4096x3840, .f32⟩
  | .hbm, ⟨15, _⟩ => ⟨S8x4096x3840, .f32⟩
  | .hbm, ⟨16, _⟩ => ⟨S32768x3840, .f32⟩
  | .hbm, ⟨17, _⟩ => ⟨S32768x1536, .f32⟩
  | .hbm, ⟨18, _⟩ => ⟨S32768x1536, .bf16⟩
  | .hbm, ⟨19, _⟩ => ⟨S32768x2304, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024x2816 : Shape := ⟨2, ![1024, 2816]⟩
abbrev S2816 : Shape := ⟨1, ![2816]⟩
abbrev S_ : Shape := ⟨0, ![]⟩
abbrev S1x2816 : Shape := ⟨2, ![1, 2816]⟩
abbrev S32768x1024 : Shape := ⟨2, ![32768, 1024]⟩
abbrev S32768x1536 : Shape := ⟨2, ![32768, 1536]⟩
abbrev S32768x1280 : Shape := ⟨2, ![32768, 1280]⟩
abbrev S512x1024 : Shape := ⟨2, ![512, 1024]⟩
abbrev S512x1536 : Shape := ⟨2, ![512, 1536]⟩
abbrev S512x1280 : Shape := ⟨2, ![512, 1280]⟩
abbrev S1024x256 : Shape := ⟨2, ![1024, 256]⟩
abbrev S512x256 : Shape := ⟨2, ![512, 256]⟩

abbrev nBuf : Space → Nat
  | .hbm => 19
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S1024x2816, .f32⟩
  | .hbm, ⟨2, _⟩ => ⟨S2816, .i32⟩
  | .hbm, ⟨3, _⟩ => ⟨S_, .i32⟩
  | .hbm, ⟨4, _⟩ => ⟨S2816, .i32⟩
  | .hbm, ⟨5, _⟩ => ⟨S2816, .i1⟩
  | .hbm, ⟨6, _⟩ => ⟨S_, .f32⟩
  | .hbm, ⟨7, _⟩ => ⟨S_, .f32⟩
  | .hbm, ⟨8, _⟩ => ⟨S2816, .f32⟩
  | .hbm, ⟨9, _⟩ => ⟨S2816, .f32⟩
  | .hbm, ⟨10, _⟩ => ⟨S2816, .f32⟩
  | .hbm, ⟨11, _⟩ => ⟨S2816, .f32⟩
  | .hbm, ⟨12, _⟩ => ⟨S1x2816, .f32⟩
  | .hbm, ⟨13, _⟩ => ⟨S1024x2816, .f32⟩
  | .hbm, ⟨14, _⟩ => ⟨S1024x2816, .f32⟩
  | .hbm, ⟨15, _⟩ => ⟨S32768x1024, .f32⟩
  | .hbm, ⟨16, _⟩ => ⟨S1024x2816, .bf16⟩
  | .hbm, ⟨17, _⟩ => ⟨S32768x1536, .bf16⟩
  | .hbm, ⟨18, _⟩ => ⟨S32768x1280, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S512x1536, .bf16⟩
  | .local _ .vmem, ⟨4, _⟩ => ⟨S512x1536, .bf16⟩
  | .local _ .vmem, ⟨5, _⟩ => ⟨S512x1280, .f32⟩
  | .local _ .vmem, ⟨6, _⟩ => ⟨S512x1280, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x4096x1024 : Shape := ⟨3, ![8, 4096, 1024]⟩
abbrev S1024x2816 : Shape := ⟨2, ![1024, 2816]⟩
abbrev S8x4096x2816 : Shape := ⟨3, ![8, 4096, 2816]⟩
abbrev S2816 : Shape := ⟨1, ![2816]⟩
abbrev S_ : Shape := ⟨0, ![]⟩
abbrev S1x1x2816 : Shape := ⟨3, ![1, 1, 2816]⟩
abbrev S32768x2816 : Shape := ⟨2, ![32768, 2816]⟩
abbrev S32768x1536 : Shape := ⟨2, ![32768, 1536]⟩
abbrev S32768x1280 : Shape := ⟨2, ![32768, 1280]⟩

abbrev nBuf : Space → Nat
  | .hbm => 20
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x2816, .f32⟩
  | .hbm, ⟨2, _⟩ => ⟨S8x4096x2816, .f32⟩
  | .hbm, ⟨3, _⟩ => ⟨S2816, .i32⟩
  | .hbm, ⟨4, _⟩ => ⟨S_, .i32⟩
  | .hbm, ⟨5, _⟩ => ⟨S2816, .i32⟩
  | .hbm, ⟨6, _⟩ => ⟨S2816, .i1⟩
  | .hbm, ⟨7, _⟩ => ⟨S_, .f32⟩
  | .hbm, ⟨8, _⟩ => ⟨S_, .f32⟩
  | .hbm, ⟨9, _⟩ => ⟨S2816, .f32⟩
  | .hbm, ⟨10, _⟩ => ⟨S2816, .f32⟩
  | .hbm, ⟨11, _⟩ => ⟨S2816, .f32⟩
  | .hbm, ⟨12, _⟩ => ⟨S2816, .f32⟩
  | .hbm, ⟨13, _⟩ => ⟨S1x1x2816, .f32⟩
  | .hbm, ⟨14, _⟩ => ⟨S8x4096x2816, .f32⟩
  | .hbm, ⟨15, _⟩ => ⟨S8x4096x2816, .f32⟩
  | .hbm, ⟨16, _⟩ => ⟨S32768x2816, .f32⟩
  | .hbm, ⟨17, _⟩ => ⟨S32768x1536, .f32⟩
  | .hbm, ⟨18, _⟩ => ⟨S32768x1536, .bf16⟩
  | .hbm, ⟨19, _⟩ => ⟨S32768x1280, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel2.lean ====
abbrev S8x4096x1536 : Shape := ⟨3, ![8, 4096, 1536]⟩
abbrev S8x256x2x64 : Shape := ⟨4, ![8, 256, 2, 64]⟩
abbrev S8x4096x256 : Shape := ⟨3, ![8, 4096, 256]⟩
abbrev S_ : Shape := ⟨0, ![]⟩
abbrev S1536 : Shape := ⟨1, ![1536]⟩
abbrev S1x1x1536 : Shape := ⟨3, ![1, 1, 1536]⟩
abbrev S8x256x1x64 : Shape := ⟨4, ![8, 256, 1, 64]⟩
abbrev S8x256x64 : Shape := ⟨3, ![8, 256, 64]⟩
abbrev S8x1x256x64 : Shape := ⟨4, ![8, 1, 256, 64]⟩
abbrev S8x4x256x64 : Shape := ⟨4, ![8, 4, 256, 64]⟩
abbrev S8x4x256x128 : Shape := ⟨4, ![8, 4, 256, 128]⟩
abbrev S4096 : Shape := ⟨1, ![4096]⟩
abbrev S4096x1 : Shape := ⟨2, ![4096, 1]⟩
abbrev S256 : Shape := ⟨1, ![256]⟩
abbrev S1x256 : Shape := ⟨2, ![1, 256]⟩
abbrev S4096x256 : Shape := ⟨2, ![4096, 256]⟩
abbrev S8x4096x512 : Shape := ⟨3, ![8, 4096, 512]⟩
abbrev S8x2x4096x128 : Shape := ⟨4, ![8, 2, 4096, 128]⟩
abbrev S1x512x256 : Shape := ⟨3, ![1, 512, 256]⟩
abbrev S1x1x256x128 : Shape := ⟨4, ![1, 1, 256, 128]⟩
abbrev S4x512x256 : Shape := ⟨3, ![4, 512, 256]⟩
abbrev S1x1x512x128 : Shape := ⟨4, ![1, 1, 512, 128]⟩
abbrev S2x2x272x128 : Shape := ⟨4, ![2, 2, 272, 128]⟩
abbrev S2x64x256 : Shape := ⟨3, ![2, 64, 256]⟩
abbrev S2x128x256 : Shape := ⟨3, ![2, 128, 256]⟩
abbrev S256x128 : Shape := ⟨2, ![256, 128]⟩
abbrev S1x256x128 : Shape := ⟨3, ![1, 256, 128]⟩
abbrev S256x256 : Shape := ⟨2, ![256, 256]⟩
abbrev S1x256x256 : Shape := ⟨3, ![1, 256, 256]⟩
abbrev S256x1 : Shape := ⟨2, ![256, 1]⟩
abbrev S8x128 : Shape := ⟨2, ![8, 128]⟩
abbrev S1x2x272x128 : Shape := ⟨4, ![1, 2, 272, 128]⟩
abbrev S2x272x128 : Shape := ⟨3, ![2, 272, 128]⟩
abbrev S1x8x128 : Shape := ⟨3, ![1, 8, 128]⟩
abbrev S1x64x128 : Shape := ⟨3, ![1, 64, 128]⟩
abbrev S64x128 : Shape := ⟨2, ![64, 128]⟩
abbrev S64x256 : Shape := ⟨2, ![64, 256]⟩
abbrev S1x64x256 : Shape := ⟨3, ![1, 64, 256]⟩
abbrev S128x256 : Shape := ⟨2, ![128, 256]⟩
abbrev S1x128x256 : Shape := ⟨3, ![1, 128, 256]⟩
abbrev S8x256 : Shape := ⟨2, ![8, 256]⟩

abbrev nBuf : Space → Nat
  | .hbm => 64
  | .vmem => 15
  | .smem => 0
  | _ => 0

abbrev bufTy : (tb : Table) → Fin (tcTables nBuf tb) → BufTy
  | .hbm, ⟨0, _⟩ => ⟨S8x4096x1536, .f32⟩
  | .hbm, ⟨1, _⟩ => ⟨S8x256x2x64, .f32⟩
  | .hbm, ⟨2, _⟩ => ⟨S8x256x2x64, .f32⟩
  | .hbm, ⟨3, _⟩ => ⟨S8x4096x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1536, .i32⟩
  | .hbm, ⟨9, _⟩ => ⟨S_, .i32⟩
  | .hbm, ⟨10, _⟩ => ⟨S1536, .i32⟩
  | .hbm, ⟨11, _⟩ => ⟨S1536, .i1⟩
  | .hbm, ⟨12, _⟩ => ⟨S_, .f32⟩
  | .hbm, ⟨13, _⟩ => ⟨S_, .f32⟩
  | .hbm, ⟨14, _⟩ => ⟨S1536, .f32⟩
  | .hbm, ⟨15, _⟩ => ⟨S1536, .f32⟩
  | .hbm, ⟨16, _⟩ => ⟨S1536, .f32⟩
  | .hbm, ⟨17, _⟩ => ⟨S1x1x1536, .f32⟩
  | .hbm, ⟨18, _⟩ => ⟨S8x4096x1536, .f32⟩
  | .hbm, ⟨19, _⟩ => ⟨S8x4096x1536, .f32⟩
  | .hbm, ⟨20, _⟩ => ⟨S8x4096x1536, .bf16⟩
  | .hbm, ⟨21, _⟩ => ⟨S8x256x1x64, .f32⟩
  | .hbm, ⟨22, _⟩ => ⟨S8x256x64, .f32⟩
  | .hbm, ⟨23, _⟩ => ⟨S8x256x1x64, .f32⟩
  | .hbm, ⟨24, _⟩ => ⟨S8x256x64, .f32⟩
  | .hbm, ⟨25, _⟩ => ⟨S8x256x1x64, .f32⟩
  | .hbm, ⟨26, _⟩ => ⟨S8x256x64, .f32⟩
  | .hbm, ⟨27, _⟩ => ⟨S8x256x1x64, .f32⟩
  | .hbm, ⟨28, _⟩ => ⟨S8x256x64, .f32⟩
  | .hbm, ⟨29, _⟩ => ⟨S8x1x256x64, .f32⟩
  | .hbm, ⟨30, _⟩ => ⟨S8x1x256x64, .f32⟩
  | .hbm, ⟨31, _⟩ => ⟨S8x1x256x64, .f32⟩
  | .hbm, ⟨32, _⟩ => ⟨S8x1x256x64, .f32⟩
  | .hbm, ⟨33, _⟩ => ⟨S8x4x256x64, .f32⟩
  | .hbm, ⟨34, _⟩ => ⟨S8x4x256x128, .f32⟩
  | .hbm, ⟨35, _⟩ => ⟨S8x4x256x128, .bf16⟩
  | .hbm, ⟨36, _⟩ => ⟨S4096, .i32⟩
  | .hbm, ⟨37, _⟩ => ⟨S4096x1, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S1x256, .i32⟩
  | .hbm, ⟨49, _⟩ => ⟨S4096x256, .i32⟩
  | .hbm, ⟨50, _⟩ => ⟨S4096x256, .i32⟩
  | .hbm, ⟨51, _⟩ => ⟨S4096x256, .i32⟩
  | .hbm, ⟨52, _⟩ => ⟨S_, .i32⟩
  | .hbm, ⟨53, _⟩ => ⟨S4096x256, .i32⟩
  | .hbm, ⟨54, _⟩ => ⟨S4096x256, .i1⟩
  | .hbm, ⟨55, _⟩ => ⟨S8x4096x256, .f32⟩
  | .hbm, ⟨56, _⟩ => ⟨S8x4096x256, .f32⟩
  | .hbm, ⟨57, _⟩ => ⟨S_, .f32⟩
  | .hbm, ⟨58, _⟩ => ⟨S_, .f32⟩
  | .hbm, ⟨59, _⟩ => ⟨S8x4096x256, .i1⟩
  | .hbm, ⟨60, _⟩ => ⟨S8x4096x256, .f32⟩
  | .hbm, ⟨61, _⟩ => ⟨S8x4096x256, .f32⟩
  | .hbm, ⟨62, _⟩ => ⟨S8x4096x512, .f32⟩
  | .hbm, ⟨63, _⟩ => ⟨S8x2x4096x128, .bf16⟩
  | .local _ .vmem, ⟨0, _⟩ => ⟨S1x512x256, .bf16⟩
  | .local _ .vmem, ⟨1, _⟩ => ⟨S1x512x256, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x1x256x128, .bf16⟩
  | .local _ .vmem, ⟨5, _⟩ => ⟨S1x1x256x128, .bf16⟩
  | .local _ .vmem, ⟨6, _⟩ => ⟨S4x512x256, .f32⟩
  | .local _ .vmem, ⟨7, _⟩ => ⟨S4x512x256, .f32⟩
  | .local _ .vmem, ⟨8, _⟩ => ⟨S1x512x256, .f32⟩
  | .local _ .vmem, ⟨9, _⟩ => ⟨S1x512x256, .f32⟩
  | .local _ .vmem, ⟨10, _⟩ => ⟨S1x1x512x128, .bf16⟩
  | .local _ .vmem, ⟨11, _⟩ => ⟨S1x1x512x128, .bf16⟩
  | .local _ .vmem, ⟨12, _⟩ => ⟨S2x2x272x128, .f32⟩
  | .local _ .vmem, ⟨13, _⟩ => ⟨S2x64x256, .f32⟩
  | .local _ .vmem, ⟨14, _⟩ => ⟨S2x128x256, .f32⟩
  | _, _ => ⟨S8x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v42 : Ref sig .tc := ⟨.hbm, 61, rfl⟩
abbrev main_v43_0 : Ref sig .tc := ⟨.hbm, 62, rfl⟩
abbrev main_v43_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![arg2.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S8x4096x1536 : Shape := ⟨3, ![8, 4096, 1536]⟩
abbrev S8x256x2x64 : Shape := ⟨4, ![8, 256, 2, 64]⟩
abbrev S8x4096x256 : Shape := ⟨3, ![8, 4096, 256]⟩
abbrev S8x4096x512 : Shape := ⟨3, ![8, 4096, 512]⟩
abbrev S8x4096x2x4x64 : Shape := ⟨5, ![8, 4096, 2, 4, 64]⟩
abbrev S256 : Shape := ⟨1, ![256]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S4096x256 : Shape := ⟨2, ![4096, 256]⟩
abbrev S8x2x256x4096x4 : Shape := ⟨5, ![8, 2, 256, 4096, 4]⟩
abbrev S8x2x4x4096x256 : Shape := ⟨5, ![8, 2, 4, 4096, 256]⟩
abbrev S2x4x4096x256 : Shape := ⟨4, ![2, 4, 4096, 256]⟩
abbrev S1x2x4x4096x256 : Shape := ⟨5, ![1, 2, 4, 4096, 256]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x1536, .f32⟩
  | .hbm, ⟨1, _⟩ => ⟨S8x256x2x64, .f32⟩
  | .hbm, ⟨2, _⟩ => ⟨S8x256x2x64, .f32⟩
  | .hbm, ⟨3, _⟩ => ⟨S8x4096x256, .f32⟩
  | .hbm, ⟨4, _⟩ => ⟨S8x4096x512, .f32⟩
  | .hbm, ⟨5, _⟩ => ⟨S8x4096x2x4x64, .f32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S4096, .i32⟩
  | .hbm, ⟨17, _⟩ => ⟨S4096x1, .i32⟩
  | .hbm, ⟨18, _⟩ => ⟨S1x256, .i32⟩
  | .hbm, ⟨19, _⟩ => ⟨S4096x256, .i32⟩
  | .hbm, ⟨20, _⟩ => ⟨S4096x256, .i32⟩
  | .hbm, ⟨21, _⟩ => ⟨S4096x256, .i32⟩
  | .hbm, ⟨22, _⟩ => ⟨S8x2x256x4096x4, .f32⟩
  | .hbm, ⟨23, _⟩ => ⟨S8x2x4x4096x256, .f32⟩
  | .hbm, ⟨24, _⟩ => ⟨S_, .f32⟩
  | .hbm, ⟨25, _⟩ => ⟨S8x2x4x4096x256, .f32⟩
  | .hbm, ⟨26, _⟩ => ⟨S8x2x4x4096x256, .f32⟩
  | .hbm, ⟨27, _⟩ => ⟨S2x4x4096x256, .f32⟩
  | .hbm, ⟨28, _⟩ => ⟨S1x2x4x4096x256, .f32⟩
  | .hbm, ⟨29, _⟩ => ⟨S8x2x4x4096x256, .f32⟩
  | .hbm, ⟨30, _⟩ => ⟨S8x2x4x4096x256, .f32⟩
  | .hbm, ⟨31, _⟩ => ⟨S_, .i32⟩
  | .hbm, ⟨32, _⟩ => ⟨S4096x256, .i32⟩
  | .hbm, ⟨33, _⟩ => ⟨S4096x256, .i1⟩
  | .hbm, ⟨34, _⟩ => ⟨S_, .f32⟩
  | .hbm, ⟨35, _⟩ => ⟨S_, .f32⟩
  | .hbm, ⟨36, _⟩ => ⟨S8x2x4x4096x256, .i1⟩
  | .hbm, ⟨37, _⟩ => ⟨S8x2x4x4096x256, .f32⟩
  | .hbm, ⟨38, _⟩ => ⟨S8x2x4x4096x256, .f32⟩
  | .hbm, ⟨39, _⟩ => ⟨S_, .f32⟩
  | .hbm, ⟨40, _⟩ => ⟨S8x2x4x4096, .f32⟩
  | .hbm, ⟨41, _⟩ => ⟨S8x2x4x4096x1, .f32⟩
  | .hbm, ⟨42, _⟩ => ⟨S_, .f32⟩
  | .hbm, ⟨43, _⟩ => ⟨S8x2x4x4096x1, .f32⟩
  | .hbm, ⟨44, _⟩ => ⟨S8x2x4x4096x1, .i1⟩
  | .hbm, ⟨45, _⟩ => ⟨S_, .f32⟩
  | .hbm, ⟨46, _⟩ => ⟨S_, .f32⟩
  | .hbm, ⟨47, _⟩ => ⟨S8x2x4x4096x1, .f32⟩
  | .hbm, ⟨48, _⟩ => ⟨S8x2x4x4096x1, .f32⟩
  | .hbm, ⟨49, _⟩ => ⟨S8x2x4x4096x256, .f32⟩
  | .hbm, ⟨50, _⟩ => ⟨S8x2x4x4096x256, .f32⟩
  | .hbm, ⟨51, _⟩ => ⟨S8x2x4x4096x256, .f32⟩
  | .hbm, ⟨52, _⟩ => ⟨S_, .f32⟩
  | .hbm, ⟨53, _⟩ => ⟨S8x2x4x4096, .f32⟩
  | .hbm, ⟨54, _⟩ => ⟨S8x2x4x4096x1, .f32⟩
  | .hbm, ⟨55, _⟩ => ⟨S_, .f32⟩
  | .hbm, ⟨56, _⟩ => ⟨S8x2x4x4096x1, .f32⟩
  | .hbm, ⟨57, _⟩ => ⟨S8x2x4x4096x1, .i1⟩
  | .hbm, ⟨58, _⟩ => ⟨S_, .f32⟩
  | .hbm, ⟨59, _⟩ => ⟨S_, .f32⟩
  | .hbm, ⟨60, _⟩ => ⟨S8x2x4x4096x1, .f32⟩
  | .hbm, ⟨61, _⟩ => ⟨S8x2x4x4096x1, .f32⟩
  | .hbm, ⟨62, _⟩ => ⟨S8x2x4x4096x256, .f32⟩
  | .hbm, ⟨63, _⟩ => ⟨S8x2x4x4096x256, .f32⟩
  | .hbm, ⟨64, _⟩ => ⟨S8x2x64x4x4096, .f32⟩
  | .hbm, ⟨65, _⟩ => ⟨S8x4096x2x4x64, .f32⟩
  | .hbm, ⟨66, _⟩ => ⟨S8x4096x512, .f32⟩
  | _, _ => ⟨S8x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_call2_v0 : Ref sig .tc := ⟨.hbm, 59, rfl⟩
abbrev main_call2_v1 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]
-- ==== Proof.Ffn.Math.lean ====
module

public import Idealize.ShloMosaic.PureOps.Ideal
public import Idealize.ShloMosaic.PureOps.IdealRules
public import Idealize.ShloMosaic.Lib.Pointwise

@[expose] public section

set_option maxRecDepth 16384

noncomputable section

namespace Cert.Ffn

open Idealize.ShloMosaic Idealize.ShloMosaic.TcCoe Idealize.SL.Sem

/-! The conv feed-forward block as a function of entries: what both programs compute, index by index. -/

/-- The activation on scalars: GELU in its tanh form of the convolved gate `c`, times the value half `a`. -/
def actS (a c : EReal) : EReal :=
  Ideal.ofBits FTy.f32 1056964608#32 * c * (1 + Ideal.tanh (Ideal.ofBits FTy.f32 1061962282#32
    * (c + Ideal.ofBits FTy.f32 1027024659#32 * (c * c * c)))) * a

/-- The three-tap convolution on scalars: `p`, `q`, `g` are the gate two rows back, one row back and here. -/
def convS (p q g w0 w1 w2 b : EReal) : EReal := p * w0 + q * w1 + g * w2 + b

/-- The mean of 1024 entries. -/
def meanS (z : Fin 1024 → EReal) : EReal := Ideal.div (∑ x, z x) (Ideal.ofBits FTy.f32 1149239296#32)

/-- The layer norm of a row `z`, with weights `g` and `β`. -/
def normS (z g β : Fin 1024 → EReal) (j : Fin 1024) : EReal :=
  (z j - meanS z) * Ideal.rsqrt (meanS (fun x => (z x - meanS z) * (z x - meanS z)) + Ideal.ofBits FTy.f32 925353388#32) * g j + β j

section

variable (X : Fin 8 → Fin 4096 → Fin 1024 → EReal) (Wu : Fin 1024 → Fin 5632 → EReal) (cw : Fin 3 → Fin 2816 → EReal)
  (cb : Fin 2816 → EReal) (Wd : Fin 2816 → Fin 1024 → EReal) (g β : Fin 1024 → EReal)

/-- The gate half of the up projection. -/
def gate (b : Fin 8) (s : Fin 4096) (f : Fin 2816) : EReal := ∑ k : Fin 1024, X b s k * Wu k ⟨2816 + f.val, by omega⟩

/-- The gate `d` positions earlier in the sequence, zero before its start. -/
def gateBack (b : Fin 8) (s : Fin 4096) (d : ℕ) (f : Fin 2816) : EReal :=
  if d ≤ s.val then gate X Wu b ⟨s.val - d, by omega⟩ f else 0

/-- The gate after the causal three-tap convolution. -/
def conv (b : Fin 8) (s : Fin 4096) (f : Fin 2816) : EReal :=
  convS (gateBack X Wu b s 2 f) (gateBack X Wu b s 1 f) (gate X Wu b s f) (cw 0 f) (cw 1 f) (cw 2 f) (cb f)

/-- The activated row the down projection reads. -/
def act (b : Fin 8) (s : Fin 4096) (f : Fin 2816) : EReal :=
  actS (∑ k : Fin 1024, X b s k * Wu k ⟨f.val, by omega⟩) (conv X Wu cw cb b s f)

/-- The residual sum before the layer norm. -/
def resid (b : Fin 8) (s : Fin 4096) (j : Fin 1024) : EReal :=
  Ideal.ofBits FTy.f32 1071072509#32 * X b s j + ∑ f : Fin 2816, act X Wu cw cb b s f * Wd f j

/-- The block's output. -/
def outF (b : Fin 8) (s : Fin 4096) (j : Fin 1024) : EReal := normS (resid X Wu cw cb Wd b s) g β j

end

end Cert.Ffn
-- ==== Proof.Ffn.Tile.lean ====
module

public import proofs.«01_k».proof.Proof.Gen.KernelIdeal.Value
public import proofs.«01_k».proof.Proof.Ffn.Math
public import Idealize.ShloMosaic.Lib.Pointwise
public import Idealize.ShloMosaic.Lib.Pipeline.ValueKit
public import Idealize.ShloMosaic.Lib.VecWindow

@[expose] public section

set_option maxRecDepth 16384

noncomputable section

namespace Cert.Ffn

open Idealize.ShloMosaic Idealize.ShloMosaic.TcCoe Idealize.SL.Sem
open Idealize.ShloMosaic.Pipeline (Dat)
open Cert.KernelIdeal Cert.KernelIdeal.Gen

/-- What the 512 rows from row `o` of slot `p` of the staging buffer read after its last two stores: rows 8 to 519 of the slot hold
    the gate product `w`, rows 0 to 7 the eight rows `w8` kept from the tile before. Every older store lies under these two. -/
theorem gs_load {sg : RefSig} {κ : Kind} {sp : Space} (v : View sg κ sp S2x520x256 .f32) (p o : ℕ)
    (inP : ∀ a, (![p, 0, 0] : Fin 3 → ℕ) a + (![1, 520, 256] : Fin 3 → ℕ) a ≤ S2x520x256.size a)
    (in8 : ∀ a, (![8, 0] : Fin 2 → ℕ) a + (![512, 256] : Fin 2 → ℕ) a ≤ S520x256.size a)
    (in0 : ∀ a, (![0, 0] : Fin 2 → ℕ) a + (![8, 256] : Fin 2 → ℕ) a ≤ S520x256.size a)
    (ino : ∀ a, (![o, 0] : Fin 2 → ℕ) a + (![512, 256] : Fin 2 → ℕ) a ≤ S520x256.size a)
    (h0 : (![1, 520, 256] : Fin 3 → ℕ) 0 = 1) (hs : ∀ i : Fin 2, (![1, 520, 256] : Fin 3 → ℕ) i.succ = (![520, 256] : Fin 2 → ℕ) i)
    (hst : ∀ a, (Rect.unit (s := S2x520x256) ![p, 0, 0] ![1, 520, 256] inP).stride a = 1)
    (h8 : ((Rect.unit (s := S520x256) ![8, 0] ![512, 256] in8).consLift ![1, 520, 256] h0 hs).shape.numel
      = (Rect.unit (s := S520x256) ![8, 0] ![512, 256] in8).shape.numel)
    (h80 : ((Rect.unit (s := S520x256) ![0, 0] ![8, 256] in0).consLift ![1, 520, 256] h0 hs).shape.numel
      = (Rect.unit (s := S520x256) ![0, 0] ![8, 256] in0).shape.numel)
    (hV : (Rect.unit (s := S520x256) ![o, 0] ![512, 256] ino).toLoadRect.shape.numel
      = ((Rect.unit (s := S2x520x256) ![p, 0, 0] ![1, 520, 256] inP).withinL
          (LoadRect.consLift (Rect.unit (s := S520x256) ![o, 0] ![512, 256] ino).toLoadRect ![1, 520, 256] h0 hs) hst).shape.numel)
    (w : S512x256.Idx → Elt Ideal .f32) (w8 : S8x256.Idx → Elt Ideal .f32) (L : List (View.Piece (Elt Ideal) S2x520x256 .f32))
    (ho : o ≤ 8) (r : Fin 512) (l : Fin 256) :
    (LoadRect.valAlong (lr := (Rect.unit (s := S520x256) ![o, 0] ![512, 256] ino).toLoadRect) hV
      (v.readCov (Val := Elt Ideal)
        (⟨(Rect.unit (s := S2x520x256) ![p, 0, 0] ![1, 520, 256] inP).within
            ((Rect.unit (s := S520x256) ![8, 0] ![512, 256] in8).consLift ![1, 520, 256] h0 hs) hst, Rect.payAlong h8 w⟩ ::
         ⟨(Rect.unit (s := S2x520x256) ![p, 0, 0] ![1, 520, 256] inP).within
            ((Rect.unit (s := S520x256) ![0, 0] ![8, 256] in0).consLift ![1, 520, 256] h0 hs) hst, Rect.payAlong h80 w8⟩ :: L)
        ((Rect.unit (s := S2x520x256) ![p, 0, 0] ![1, 520, 256] inP).withinL
          (LoadRect.consLift (Rect.unit (s := S520x256) ![o, 0] ![512, 256] ino).toLoadRect ![1, 520, 256] h0 hs) hst))) (ix2 r l)
      = if h : r.val + o < 8 then w8 (ix2 ⟨r.val + o, h⟩ l) else w (ix2 ⟨r.val + o - 8, by omega⟩ l) := by
  have e : (Shape.reshapeEquiv hV (ix2 r l)) = (Fin.cons ⟨0, Nat.one_pos⟩ (ix2 r l)) := Shape.reshapeEquiv_cons_one (d := ![512, 256]) _ _
  show (v.readCov (Val := Elt Ideal) _ _) (Shape.reshapeEquiv hV (ix2 r l)) = _
  rw [e, View.readCov_eq_canon']
  beta_reduce
  have y1 : ((((Rect.unit (s := S2x520x256) ![p, 0, 0] ![1, 520, 256] inP).withinL
      (LoadRect.consLift (Rect.unit (s := S520x256) ![o, 0] ![512, 256] ino).toLoadRect ![1, 520, 256] h0 hs) hst).idx
      (Fin.cons ⟨0, Nat.one_pos⟩ (ix2 r l))) (1 : Fin 3)).val = r.val + o := by
    show 0 + o + 1 * r.val = _
    omega
  split
  · rename_i h
    rw [View.canon_cons_of_not_mem _ _ (Rect.not_mem_set_of_axis _ _ (1 : Fin 3) 8 512 rfl rfl rfl (.inl (by rw [y1]; exact h)))]
    let x : ((Rect.unit (s := S520x256) ![0, 0] ![8, 256] in0).consLift ![1, 520, 256] h0 hs).shape.Idx :=
      Fin.cons ⟨0, Nat.one_pos⟩ (ix2 (n0 := 8) (n1 := 256) ⟨r.val + o, h⟩ l)
    have ex := Rect.emb_eq_of_coords ((Rect.unit (s := S2x520x256) ![p, 0, 0] ![1, 520, 256] inP).within
            ((Rect.unit (s := S520x256) ![0, 0] ![8, 256] in0).consLift ![1, 520, 256] h0 hs) hst) x
      (((Rect.unit (s := S2x520x256) ![p, 0, 0] ![1, 520, 256] inP).withinL
      (LoadRect.consLift (Rect.unit (s := S520x256) ![o, 0] ![512, 256] ino).toLoadRect ![1, 520, 256] h0 hs) hst).idx
      (Fin.cons ⟨0, Nat.one_pos⟩ (ix2 r l))) (by
        intro a
        match a with
        | 0 => show p + 0 + 1 * 0 = p + 0 + 1 * 0; rfl
        | 1 => show 0 + o + 1 * r.val = 0 + 0 + 1 * (r.val + o); omega
        | 2 => show 0 + 0 + 1 * l.val = 0 + 0 + 1 * l.val; rfl)
    rw [← ex]
    refine (View.canon_cons_emb ((Rect.unit (s := S2x520x256) ![p, 0, 0] ![1, 520, 256] inP).within
            ((Rect.unit (s := S520x256) ![0, 0] ![8, 256] in0).consLift ![1, 520, 256] h0 hs) hst) (Rect.payAlong h80 w8) _ x).trans ?_
    exact Rect.payAlong_consLift _ _ h0 hs w8 h80 x (ix2 ⟨r.val + o, h⟩ l) (fun i => by
      match i with
      | 0 => rfl
      | 1 => rfl)
  · rename_i h
    let x : ((Rect.unit (s := S520x256) ![8, 0] ![512, 256] in8).consLift ![1, 520, 256] h0 hs).shape.Idx :=
      Fin.cons ⟨0, Nat.one_pos⟩ (ix2 (n0 := 512) (n1 := 256) ⟨r.val + o - 8, by omega⟩ l)
    have ex := Rect.emb_eq_of_coords ((Rect.unit (s := S2x520x256) ![p, 0, 0] ![1, 520, 256] inP).within
            ((Rect.unit (s := S520x256) ![8, 0] ![512, 256] in8).consLift ![1, 520, 256] h0 hs) hst) x
      (((Rect.unit (s := S2x520x256) ![p, 0, 0] ![1, 520, 256] inP).withinL
      (LoadRect.consLift (Rect.unit (s := S520x256) ![o, 0] ![512, 256] ino).toLoadRect ![1, 520, 256] h0 hs) hst).idx
      (Fin.cons ⟨0, Nat.one_pos⟩ (ix2 r l))) (by
        intro a
        match a with
        | 0 => show p + 0 + 1 * 0 = p + 0 + 1 * 0; rfl
        | 1 => show 0 + o + 1 * r.val = 0 + 8 + 1 * (r.val + o - 8); omega
        | 2 => show 0 + 0 + 1 * l.val = 0 + 0 + 1 * l.val; rfl)
    rw [← ex]
    refine (View.canon_cons_emb ((Rect.unit (s := S2x520x256) ![p, 0, 0] ![1, 520, 256] inP).within
            ((Rect.unit (s := S520x256) ![8, 0] ![512, 256] in8).consLift ![1, 520, 256] h0 hs) hst) (Rect.payAlong h8 w) _ x).trans ?_
    exact Rect.payAlong_consLift _ _ h0 hs w h8 x (ix2 ⟨r.val + o - 8, by omega⟩ l) (fun i => by
      match i with
      | 0 => rfl
      | 1 => rfl)

/-- Rows `o` to `o + 511` of the eight kept rows `w8` followed by the 512 rows of `w`. -/
def shifted (o : ℕ) (ho : o ≤ 8) (w : Vec Ideal S512x256 .f32) (w8 : Vec Ideal S8x256 .f32) : Vec Ideal S512x256 .f32 := fun i =>
  if h : (i 0).val + o < 8 then w8 (ix2 ⟨(i 0).val + o, h⟩ (i 1)) else w (ix2 ⟨(i 0).val + o - 8, by have h1 : (i 0).val < 512 := (i 0).isLt; omega⟩ (i 1))

/-- `gs_load` as one equation of arrays. -/
theorem gs_vec {sg : RefSig} {κ : Kind} {sp : Space} (v : View sg κ sp S2x520x256 .f32) (p o : ℕ)
    (inP : ∀ a, (![p, 0, 0] : Fin 3 → ℕ) a + (![1, 520, 256] : Fin 3 → ℕ) a ≤ S2x520x256.size a)
    (in8 : ∀ a, (![8, 0] : Fin 2 → ℕ) a + (![512, 256] : Fin 2 → ℕ) a ≤ S520x256.size a)
    (in0 : ∀ a, (![0, 0] : Fin 2 → ℕ) a + (![8, 256] : Fin 2 → ℕ) a ≤ S520x256.size a)
    (ino : ∀ a, (![o, 0] : Fin 2 → ℕ) a + (![512, 256] : Fin 2 → ℕ) a ≤ S520x256.size a)
    (h0 : (![1, 520, 256] : Fin 3 → ℕ) 0 = 1) (hs : ∀ i : Fin 2, (![1, 520, 256] : Fin 3 → ℕ) i.succ = (![520, 256] : Fin 2 → ℕ) i)
    (hst : ∀ a, (Rect.unit (s := S2x520x256) ![p, 0, 0] ![1, 520, 256] inP).stride a = 1)
    (h8 : ((Rect.unit (s := S520x256) ![8, 0] ![512, 256] in8).consLift ![1, 520, 256] h0 hs).shape.numel
      = (Rect.unit (s := S520x256) ![8, 0] ![512, 256] in8).shape.numel)
    (h80 : ((Rect.unit (s := S520x256) ![0, 0] ![8, 256] in0).consLift ![1, 520, 256] h0 hs).shape.numel
      = (Rect.unit (s := S520x256) ![0, 0] ![8, 256] in0).shape.numel)
    (hV : (Rect.unit (s := S520x256) ![o, 0] ![512, 256] ino).toLoadRect.shape.numel
      = ((Rect.unit (s := S2x520x256) ![p, 0, 0] ![1, 520, 256] inP).withinL
          (LoadRect.consLift (Rect.unit (s := S520x256) ![o, 0] ![512, 256] ino).toLoadRect ![1, 520, 256] h0 hs) hst).shape.numel)
    (w : S512x256.Idx → Elt Ideal .f32) (w8 : S8x256.Idx → Elt Ideal .f32) (L : List (View.Piece (Elt Ideal) S2x520x256 .f32))
    (ho : o ≤ 8) :
    (LoadRect.valAlong (lr := (Rect.unit (s := S520x256) ![o, 0] ![512, 256] ino).toLoadRect) hV
      (v.readCov (Val := Elt Ideal)
        (⟨(Rect.unit (s := S2x520x256) ![p, 0, 0] ![1, 520, 256] inP).within
            ((Rect.unit (s := S520x256) ![8, 0] ![512, 256] in8).consLift ![1, 520, 256] h0 hs) hst, Rect.payAlong h8 w⟩ ::
         ⟨(Rect.unit (s := S2x520x256) ![p, 0, 0] ![1, 520, 256] inP).within
            ((Rect.unit (s := S520x256) ![0, 0] ![8, 256] in0).consLift ![1, 520, 256] h0 hs) hst, Rect.payAlong h80 w8⟩ :: L)
        ((Rect.unit (s := S2x520x256) ![p, 0, 0] ![1, 520, 256] inP).withinL
          (LoadRect.consLift (Rect.unit (s := S520x256) ![o, 0] ![512, 256] ino).toLoadRect ![1, 520, 256] h0 hs) hst)))
      = shifted o ho w w8 := by
  funext i
  obtain ⟨r, l, rfl⟩ : ∃ r l, i = ix2 (n0 := 512) (n1 := 256) r l := ⟨i 0, i 1, by funext a; match a with | 0 => rfl | 1 => rfl⟩
  exact gs_load v p o inP in8 in0 ino h0 hs hst h8 h80 hV w w8 L ho r l

/-- One chunk of 256 columns of the body: from the tile's rows `X`, the chunk's columns `wa` and `wg` of the two halves of the up
    projection, the eight kept gate rows `tl`, and the chunk's convolution weights and bias. -/
def chunk (X : Vec Ideal S512x1024 .f32) (wa wg : Vec Ideal S1024x256 .bf16) (tl : Vec Ideal S8x256 .f32) (c0 c1 c2 cb : Vec Ideal S1x256 .f32) :
    Vec Ideal S512x256 .bf16 :=
  k0_pay13 (k0_pay5 X wa) (k0_pay12 (k0_pay6 X wg) (shifted 6 (by omega) (k0_pay10 (k0_pay6 X wg)) (k0_pay9 tl)) c0
    (shifted 7 (by omega) (k0_pay10 (k0_pay6 X wg)) (k0_pay9 tl)) c1 c2) cb

/-- A chunk at a row and a column. -/
theorem chunk_at (X : Vec Ideal S512x1024 .f32) (wa wg : Vec Ideal S1024x256 .bf16) (tl : Vec Ideal S8x256 .f32) (c0 c1 c2 cb : Vec Ideal S1x256 .f32)
    (r : Fin 512) (l : Fin 256) : chunk X wa wg tl c0 c1 c2 cb (ix2 r l)
      = actS (∑ k : Fin 1024, X (ix2 r k) * wa (ix2 k l)) (convS
          (if h : r.val + 6 < 8 then tl (ix2 ⟨r.val + 6, h⟩ l) else ∑ k : Fin 1024, X (ix2 ⟨r.val + 6 - 8, by omega⟩ k) * wg (ix2 k l))
          (if h : r.val + 7 < 8 then tl (ix2 ⟨r.val + 7, h⟩ l) else ∑ k : Fin 1024, X (ix2 ⟨r.val + 7 - 8, by omega⟩ k) * wg (ix2 k l))
          (∑ k : Fin 1024, X (ix2 r k) * wg (ix2 k l)) (c0 (ix2 0 l)) (c1 (ix2 0 l)) (c2 (ix2 0 l)) (cb (ix2 0 l))) := by
  pointwise [chunk, k0_pay13, k0_pay5, k0_pay12, k0_pay6, k0_pay4, k0_pay3, k0_pay10, k0_pay9, shifted, actS, convS]

theorem chunk_0 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay10 (k0_pay6 X wg)) (k0_pay9 tl))
    (h7 : A7 = shifted 7 (by omega) (k0_pay10 (k0_pay6 X wg)) (k0_pay9 tl)) :
    k0_pay13 (k0_pay5 X wa) (k0_pay12 (k0_pay6 X wg) A6 c0 A7 c1 c2) cb
      = chunk X wa wg tl c0 c1 c2 cb := by
  subst h6 h7
  rfl

theorem chunk_1 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay17 (k0_pay8 X wg)) (k0_pay16 tl))
    (h7 : A7 = shifted 7 (by omega) (k0_pay17 (k0_pay8 X wg)) (k0_pay16 tl)) :
    k0_pay22 (k0_pay7 X wa) (k0_pay20 (k0_pay8 X wg) A6 c0 A7 c1 c2 cb) (k0_pay21 (k0_pay8 X wg) A6 c0 A7 c1 c2 cb)
      = chunk X wa wg tl c0 c1 c2 cb := by
  subst h6 h7
  rfl

theorem chunk_2 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay26 (k0_pay15 (k0_pay4 X) wg)) (k0_pay25 tl))
    (h7 : A7 = shifted 7 (by omega) (k0_pay26 (k0_pay15 (k0_pay4 X) wg)) (k0_pay25 tl)) :
    k0_pay29 (k0_pay28 (k0_pay14 (k0_pay4 X) wa) (k0_pay15 (k0_pay4 X) wg) A6 c0 A7 c1 c2 cb)
      = chunk X wa wg tl c0 c1 c2 cb := by
  subst h6 h7
  rfl

theorem chunk_3 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay33 (k0_pay24 (k0_pay4 X) wg)) (k0_pay32 tl))
    (h7 : A7 = shifted 7 (by omega) (k0_pay33 (k0_pay24 (k0_pay4 X) wg)) (k0_pay32 tl)) :
    k0_pay36 (k0_pay23 (k0_pay4 X) wa) (k0_pay24 (k0_pay4 X) wg) A6 (k0_pay35 c0) A7 c1 c2 cb
      = chunk X wa wg tl c0 c1 c2 cb := by
  subst h6 h7
  rfl

theorem chunk_4 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay40 (k0_pay31 (k0_pay4 X) wg)) (k0_pay39 tl))
    (h7 : A7 = shifted 7 (by omega) (k0_pay40 (k0_pay31 (k0_pay4 X) wg)) (k0_pay39 tl)) :
    k0_pay43 (k0_pay30 (k0_pay4 X) wa) (k0_pay31 (k0_pay4 X) wg) (k0_pay42 A6 c0) A7 c1 c2 cb
      = chunk X wa wg tl c0 c1 c2 cb := by
  subst h6 h7
  rfl

theorem chunk_5 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay47 (k0_pay38 (k0_pay4 X) wg)) (k0_pay46 tl))
    (h7 : A7 = shifted 7 (by omega) (k0_pay47 (k0_pay38 (k0_pay4 X) wg)) (k0_pay46 tl)) :
    k0_pay50 (k0_pay37 (k0_pay4 X) wa) (k0_pay49 (k0_pay38 (k0_pay4 X) wg) A6 c0 A7 c1 c2) cb
      = chunk X wa wg tl c0 c1 c2 cb := by
  subst h6 h7
  rfl

theorem chunk_6 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay54 (k0_pay45 (k0_pay4 X) wg)) (k0_pay53 tl))
    (h7 : A7 = shifted 7 (by omega) (k0_pay54 (k0_pay45 (k0_pay4 X) wg)) (k0_pay53 tl)) :
    k0_pay59 (k0_pay44 (k0_pay4 X) wa) (k0_pay57 (k0_pay45 (k0_pay4 X) wg) A6 c0 A7 c1 c2 cb) (k0_pay58 (k0_pay45 (k0_pay4 X) wg) A6 c0 A7 c1 c2 cb)
      = chunk X wa wg tl c0 c1 c2 cb := by
  subst h6 h7
  rfl

theorem chunk_7 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay63 (k0_pay52 (k0_pay4 X) wg)) (k0_pay62 tl))
    (h7 : A7 = shifted 7 (by omega) (k0_pay63 (k0_pay52 (k0_pay4 X) wg)) (k0_pay62 tl)) :
    k0_pay66 (k0_pay65 (k0_pay51 (k0_pay4 X) wa) (k0_pay52 (k0_pay4 X) wg) A6 c0 A7 c1 c2 cb)
      = chunk X wa wg tl c0 c1 c2 cb := by
  subst h6 h7
  rfl

theorem chunk_8 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay70 (k0_pay61 (k0_pay4 X) wg)) (k0_pay69 tl))
    (h7 : A7 = shifted 7 (by omega) (k0_pay70 (k0_pay61 (k0_pay4 X) wg)) (k0_pay69 tl)) :
    k0_pay73 (k0_pay60 (k0_pay4 X) wa) (k0_pay61 (k0_pay4 X) wg) A6 (k0_pay72 c0) A7 c1 c2 cb
      = chunk X wa wg tl c0 c1 c2 cb := by
  subst h6 h7
  rfl

theorem chunk_9 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay77 (k0_pay68 (k0_pay4 X) wg)) (k0_pay76 tl))
    (h7 : A7 = shifted 7 (by omega) (k0_pay77 (k0_pay68 (k0_pay4 X) wg)) (k0_pay76 tl)) :
    k0_pay80 (k0_pay67 (k0_pay4 X) wa) (k0_pay68 (k0_pay4 X) wg) (k0_pay79 A6 c0) A7 c1 c2 cb
      = chunk X wa wg tl c0 c1 c2 cb := by
  subst h6 h7
  rfl

theorem chunk_10 (X : Vec Ideal S512x1024 .f32) (wa wg : Vec Ideal S1024x256 .bf16) (tl : Vec Ideal S8x256 .f32) (c0 c1 c2 cb : Vec Ideal S1x256 .f32)
    (A6 A7 : Vec Ideal S512x256 .f32) (h6 : A6 = shifted 6 (by omega) (k0_pay82 (k0_pay75 (k0_pay4 X) wg)) (k0_pay81 tl))
    (h7 : A7 = shifted 7 (by omega) (k0_pay82 (k0_pay75 (k0_pay4 X) wg)) (k0_pay81 tl)) :
    k0_pay87 (k0_pay74 (k0_pay4 X) wa) (k0_pay85 (k0_pay75 (k0_pay4 X) wg) A6 c0 A7 c1 c2 cb) (k0_pay86 (k0_pay75 (k0_pay4 X) wg) A6 c0 A7 c1 c2 cb)
      = chunk X wa wg tl c0 c1 c2 cb := by
  subst h6 h7
  rfl

variable (m : (ℓ : Loc nD τ sig) → Buf (Elt Ideal) ℓ)

/-- The gate half of the up projection of row `r` of a tile. -/
def gateT (X : Vec Ideal S512x1024 .f32) (W : Vec Ideal S1024x5632 .bf16) (r : Fin 512) (f : Fin 2816) : EReal :=
  ∑ k : Fin 1024, X (ix2 r k) * W (ix2 k ⟨2816 + f.val, by omega⟩)

/-- The gate `8 - o` rows before row `r` of a tile: a row of the tile, or one of the eight kept from the tile before. -/
def backT (X : Vec Ideal S512x1024 .f32) (W : Vec Ideal S1024x5632 .bf16) (tl : Vec Ideal S8x2816 .f32) (o : ℕ) (ho : o ≤ 8) (r : Fin 512)
    (f : Fin 2816) : EReal :=
  if h : r.val + o < 8 then tl (ix2 ⟨r.val + o, h⟩ f) else gateT X W ⟨r.val + o - 8, by omega⟩ f

/-- The activated rows of a tile, all 2816 columns. -/
def uT (X : Vec Ideal S512x1024 .f32) (W : Vec Ideal S1024x5632 .bf16) (CW : Vec Ideal S3x2816 .f32) (CB : Vec Ideal S1x2816 .f32)
    (tl : Vec Ideal S8x2816 .f32) : Vec Ideal S512x2816 .bf16 := fun i =>
  actS (∑ k : Fin 1024, X (ix2 (i 0) k) * W (ix2 k ⟨(i 1).val, by have h1 : (i 1).val < 2816 := (i 1).isLt; omega⟩))
    (convS (backT X W tl 6 (by omega) (i 0) (i 1)) (backT X W tl 7 (by omega) (i 0) (i 1)) (gateT X W (i 0) (i 1))
      (CW (ix2 0 (i 1))) (CW (ix2 1 (i 1))) (CW (ix2 2 (i 1))) (CB (ix2 0 (i 1))))

theorem chunk_uT (X : Vec Ideal S512x1024 .f32) (W : Vec Ideal S1024x5632 .bf16) (CW : Vec Ideal S3x2816 .f32) (CB : Vec Ideal S1x2816 .f32)
    (tl : Vec Ideal S8x2816 .f32) (n n' : ℕ) (hn : n ≤ 2560) (hn' : n' = 2816 + n) (wa wg : Vec Ideal S1024x256 .bf16) (t8 : Vec Ideal S8x256 .f32)
    (c0 c1 c2 cb : Vec Ideal S1x256 .f32)
    (hwa : ∀ (k : Fin 1024) (l : Fin 256), wa (ix2 k l) = W (ix2 k ⟨n + l.val, by omega⟩))
    (hwg : ∀ (k : Fin 1024) (l : Fin 256), wg (ix2 k l) = W (ix2 k ⟨n' + l.val, by omega⟩))
    (ht : ∀ (j : Fin 8) (l : Fin 256), t8 (ix2 j l) = tl (ix2 j ⟨n + l.val, by omega⟩))
    (hc0 : ∀ l : Fin 256, c0 (ix2 0 l) = CW (ix2 0 ⟨n + l.val, by omega⟩))
    (hc1 : ∀ l : Fin 256, c1 (ix2 0 l) = CW (ix2 1 ⟨n + l.val, by omega⟩))
    (hc2 : ∀ l : Fin 256, c2 (ix2 0 l) = CW (ix2 2 ⟨n + l.val, by omega⟩))
    (hcb : ∀ l : Fin 256, cb (ix2 0 l) = CB (ix2 0 ⟨n + l.val, by omega⟩))
    (x : S512x256.Idx) (y : S512x2816.Idx) (e0 : (y 0).val = (x 0).val) (e1 : (y 1).val = n + (x 1).val) :
    chunk X wa wg t8 c0 c1 c2 cb x = uT X W CW CB tl y := by
  obtain ⟨r, l, rfl⟩ : ∃ r l, x = ix2 (n0 := 512) (n1 := 256) r l := ⟨x 0, x 1, by funext a; match a with | 0 => rfl | 1 => rfl⟩
  have hl : n + l.val < 2816 := by omega
  obtain rfl : y = ix2 (n0 := 512) (n1 := 2816) r ⟨n + l.val, hl⟩ := by
    funext a
    match a with
    | 0 => exact Fin.ext e0
    | 1 => exact Fin.ext e1
  rw [chunk_at]
  subst hn'
  simp only [hwa, hwg, ht, hc0, hc1, hc2, hcb, Nat.add_assoc]
  rfl

/-- The eight gate rows a tile keeps for the next one: its last eight, all 2816 columns. -/
def tailT (X : Vec Ideal S512x1024 .f32) (W : Vec Ideal S1024x5632 .bf16) : Vec Ideal S8x2816 .f32 := fun i =>
  gateT X W ⟨504 + (i 0).val, by have h1 : (i 0).val < 8 := (i 0).isLt; omega⟩ (i 1)

theorem kept_at (X : Vec Ideal S512x1024 .f32) (wg : Vec Ideal S1024x256 .bf16) (j : Fin 8) (l : Fin 256) :
    k0_pay11 (k0_pay6 X wg) (ix2 j l) = ∑ k : Fin 1024, X (ix2 ⟨504 + j.val, by omega⟩ k) * wg (ix2 k l) := by
  pointwise [k0_pay11, k0_pay6, k0_pay4, k0_pay3]

/-- A kept piece of 256 columns from column `n`. -/
theorem kept_tailT (X : Vec Ideal S512x1024 .f32) (W : Vec Ideal S1024x5632 .bf16) (n n' : ℕ) (hn : n ≤ 2560) (hn' : n' = 2816 + n)
    (wg : Vec Ideal S1024x256 .bf16) (hwg : ∀ (k : Fin 1024) (l : Fin 256), wg (ix2 k l) = W (ix2 k ⟨n' + l.val, by omega⟩))
    (x : S8x256.Idx) (y : S8x2816.Idx) (e0 : (y 0).val = (x 0).val) (e1 : (y 1).val = n + (x 1).val) :
    k0_pay11 (k0_pay6 X wg) x = tailT X W y := by
  obtain ⟨r, l, rfl⟩ : ∃ r l, x = ix2 (n0 := 8) (n1 := 256) r l := ⟨x 0, x 1, by funext a; match a with | 0 => rfl | 1 => rfl⟩
  have hl : n + l.val < 2816 := by omega
  obtain rfl : y = ix2 (n0 := 8) (n1 := 2816) r ⟨n + l.val, hl⟩ := by
    funext a
    match a with
    | 0 => exact Fin.ext e0
    | 1 => exact Fin.ext e1
  rw [kept_at]
  subst hn'
  simp only [hwg, Nat.add_assoc]
  rfl

/-- A read of the kept rows through stores that end before its columns reads what lay under them. -/
theorem zero_step (n : ℕ) (inb : ∀ a, (![0, n] : Fin 2 → ℕ) a + (![8, 256] : Fin 2 → ℕ) a ≤ S8x2816.size a)
    (w : S8x256.Idx → Elt Ideal .f32) (L : List (View.Piece (Elt Ideal) S8x2816 .f32)) (y : S8x2816.Idx) (hy : n + 256 ≤ (y 1).val)
    (hL : View.canon (Val := Elt Ideal) L y = (0 : EReal)) :
    View.canon (Val := Elt Ideal) (⟨Rect.unit (s := S8x2816) ![0, n] ![8, 256] inb, w⟩ :: L) y = (0 : EReal) := by
  rw [View.canon_cons_of_not_mem _ _ (Rect.not_mem_set_of_axis _ _ (1 : Fin 2) n 256 rfl rfl rfl (.inr hy))]
  exact hL

theorem zero_base (inb : ∀ a, (![0, 0] : Fin 2 → ℕ) a + (![8, 2816] : Fin 2 → ℕ) a ≤ S8x2816.size a) (w : S8x2816.Idx → Elt Ideal .f32)
    (hw : ∀ y, w y = (0 : EReal)) (L : List (View.Piece (Elt Ideal) S8x2816 .f32)) (y : S8x2816.Idx) :
    View.canon (Val := Elt Ideal) (⟨Rect.unit (s := S8x2816) ![0, 0] ![8, 2816] inb, w⟩ :: L) y = (0 : EReal) := by
  have e := Rect.emb_eq_of_coords (Rect.unit (s := S8x2816) ![0, 0] ![8, 2816] inb) y y (by
      intro a
      match a with
      | 0 => show (y 0).val = 0 + 1 * (y 0).val; omega
      | 1 => show (y 1).val = 0 + 1 * (y 1).val; omega)
  refine (congrArg (View.canon _) e.symm).trans ?_
  refine (View.canon_cons_emb (Rect.unit (s := S8x2816) ![0, 0] ![8, 2816] inb) w L y).trans ?_
  exact hw y

theorem zeros_at (y : S8x2816.Idx) : k0_pay2 (F := Ideal) y = (0 : EReal) := by
  pointwise [k0_pay2]

theorem zero_load {sg : RefSig} {κ : Kind} {sp : Space} (v : View sg κ sp S8x2816 .f32) (n : ℕ)
    (inb : ∀ a, (![0, n] : Fin 2 → ℕ) a + (![8, 256] : Fin 2 → ℕ) a ≤ S8x2816.size a)
    (L : List (View.Piece (Elt Ideal) S8x2816 .f32)) (j : Fin 8) (l : Fin 256)
    (hL : ∀ y : S8x2816.Idx, n ≤ (y 1).val → View.canon (Val := Elt Ideal) L y = (0 : EReal)) :
    v.readCov (Val := Elt Ideal) L (Rect.unit (s := S8x2816) ![0, n] ![8, 256] inb).toLoadRect (ix2 j l) = (0 : EReal) := by
  rw [View.readCov_eq_canon']
  exact hL _ (by show n ≤ n + 1 * l.val; omega)

theorem kept_0 (X : Vec Ideal S512x1024 .f32) (wg : Vec Ideal S1024x256 .bf16) : k0_pay11 (k0_pay6 X wg) = k0_pay11 (k0_pay6 X wg) := rfl

theorem kept_1 (X : Vec Ideal S512x1024 .f32) (wg : Vec Ideal S1024x256 .bf16) : k0_pay18 (k0_pay8 X wg) = k0_pay11 (k0_pay6 X wg) := rfl

theorem kept_2 (X : Vec Ideal S512x1024 .f32) (wg : Vec Ideal S1024x256 .bf16) : k0_pay27 (k0_pay15 (k0_pay4 X) wg) = k0_pay11 (k0_pay6 X wg) := rfl

theorem kept_3 (X : Vec Ideal S512x1024 .f32) (wg : Vec Ideal S1024x256 .bf16) : k0_pay34 (k0_pay24 (k0_pay4 X) wg) = k0_pay11 (k0_pay6 X wg) := rfl

theorem kept_4 (X : Vec Ideal S512x1024 .f32) (wg : Vec Ideal S1024x256 .bf16) : k0_pay41 (k0_pay31 (k0_pay4 X) wg) = k0_pay11 (k0_pay6 X wg) := rfl

theorem kept_5 (X : Vec Ideal S512x1024 .f32) (wg : Vec Ideal S1024x256 .bf16) : k0_pay48 (k0_pay38 (k0_pay4 X) wg) = k0_pay11 (k0_pay6 X wg) := rfl

theorem kept_6 (X : Vec Ideal S512x1024 .f32) (wg : Vec Ideal S1024x256 .bf16) : k0_pay55 (k0_pay45 (k0_pay4 X) wg) = k0_pay11 (k0_pay6 X wg) := rfl

theorem kept_7 (X : Vec Ideal S512x1024 .f32) (wg : Vec Ideal S1024x256 .bf16) : k0_pay64 (k0_pay52 (k0_pay4 X) wg) = k0_pay11 (k0_pay6 X wg) := rfl

theorem kept_8 (X : Vec Ideal S512x1024 .f32) (wg : Vec Ideal S1024x256 .bf16) : k0_pay71 (k0_pay61 (k0_pay4 X) wg) = k0_pay11 (k0_pay6 X wg) := rfl

theorem kept_9 (X : Vec Ideal S512x1024 .f32) (wg : Vec Ideal S1024x256 .bf16) : k0_pay78 (k0_pay68 (k0_pay4 X) wg) = k0_pay11 (k0_pay6 X wg) := rfl

theorem kept_10 (X : Vec Ideal S512x1024 .f32) (wg : Vec Ideal S1024x256 .bf16) : k0_pay83 (k0_pay75 (k0_pay4 X) wg) = k0_pay11 (k0_pay6 X wg) := rfl

/-- The newest store of the kept rows covers columns `n` to `n + 255`; the columns before them are the older stores'. -/
theorem kept_step (n : ℕ) (hn : n ≤ 2560) (inb : ∀ a, (![0, n] : Fin 2 → ℕ) a + (![8, 256] : Fin 2 → ℕ) a ≤ S8x2816.size a)
    (w : S8x256.Idx → Elt Ideal .f32) (L : List (View.Piece (Elt Ideal) S8x2816 .f32)) (T : Vec Ideal S8x2816 .f32)
    (hw : ∀ (x : S8x256.Idx) (y : S8x2816.Idx), (y 0).val = (x 0).val → (y 1).val = n + (x 1).val → w x = T y)
    (hL : ∀ y : S8x2816.Idx, (y 1).val < n → View.canon (Val := Elt Ideal) L y = T y) (y : S8x2816.Idx) (hy : (y 1).val < n + 256) :
    View.canon (Val := Elt Ideal) (⟨Rect.unit (s := S8x2816) ![0, n] ![8, 256] inb, w⟩ :: L) y = T y := by
  by_cases h : (y 1).val < n
  · rw [View.canon_cons_of_not_mem _ _ (Rect.not_mem_set_of_axis _ _ (1 : Fin 2) n 256 rfl rfl rfl (.inl h))]
    exact hL y h
  · have h8 : (y 0).val < 8 := (y 0).isLt
    let x : S8x256.Idx := ix2 (n0 := 8) (n1 := 256) ⟨(y 0).val, h8⟩ ⟨(y 1).val - n, by omega⟩
    have ex := Rect.emb_eq_of_coords (Rect.unit (s := S8x2816) ![0, n] ![8, 256] inb) x y (by
      intro a
      match a with
      | 0 => show (y 0).val = 0 + 1 * (y 0).val; omega
      | 1 => show (y 1).val = n + 1 * ((y 1).val - n); omega)
    refine (congrArg (View.canon _) ex.symm).trans ?_
    refine (View.canon_cons_emb (Rect.unit (s := S8x2816) ![0, n] ![8, 256] inb) w L x).trans ?_
    exact hw x y rfl (by show (y 1).val = n + ((y 1).val - n); omega)

theorem outB (c : Dev nD) (t : Fin cfg0.N) (h0 : ¬ t.val % 8 = 0) :
    (outsAt0 m c t.val t.isLt).1 = k0_pay1 (k0_pay88 (iblk m c 6 t)) (k0_pay89 (k0_pay3 (iblk m c 0 t))
      (uT (iblk m c 0 t) (iblk m c 1 t) (iblk m c 2 t) (iblk m c 3 t) (outsAt0 m c (t.val - 1) (by omega)).2) (iblk m c 4 t) (iblk m c 5 t)) := by
  rw [outsAt0_B m c t h0]
  frame_out
  clear h0
  refine congrArg (fun u => k0_pay1 (k0_pay88 (iblk m c 6 t)) (k0_pay89 (k0_pay3 (iblk m c 0 t)) u (iblk m c 4 t) (iblk m c 5 t))) ?_
  rw [View.readCov_eq_canon']
  funext y
  refine (congrArg (View.canon _) (Rect.emb_unit_full _ y)).trans ?_
  canon_tiles x h
  case piece0 =>
    refine (congrFun (chunk_10 _ _ _ _ _ _ _ _ _ _ (gs_vec ..) (gs_vec ..)) _).trans ?_
    refine chunk_uT _ _ _ _ _ 2560 5376 (by omega) rfl _ _ _ _ _ _ _ (fun k l => ?_) (fun k l => ?_) (fun k l => ?_) (fun k => ?_) (fun k => ?_) (fun k => ?_) (fun k => ?_) x y h0 h1
    · pointwise
    · pointwise
    · refine (congrFun (Memref.IsWhole.read_unread (Memref.isWhole_whole cc0_scratch2) _) _).trans ?_
      pointwise
    · pointwise
    · pointwise
    · pointwise
    · pointwise
  case piece1 =>
    refine (congrFun (chunk_9 _ _ _ _ _ _ _ _ _ _ (gs_vec ..) (gs_vec ..)) _).trans ?_
    refine chunk_uT _ _ _ _ _ 2304 5120 (by omega) rfl _ _ _ _ _ _ _ (fun k l => ?_) (fun k l => ?_) (fun k l => ?_) (fun k => ?_) (fun k => ?_) (fun k => ?_) (fun k => ?_) x y h0 h1
    · pointwise
    · pointwise
    · refine (congrFun (Memref.IsWhole.read_unread (Memref.isWhole_whole cc0_scratch2) _) _).trans ?_
      pointwise
    · pointwise
    · pointwise
    · pointwise
    · pointwise
  case piece2 =>
    refine (congrFun (chunk_8 _ _ _ _ _ _ _ _ _ _ (gs_vec ..) (gs_vec ..)) _).trans ?_
    refine chunk_uT _ _ _ _ _ 2048 4864 (by omega) rfl _ _ _ _ _ _ _ (fun k l => ?_) (fun k l => ?_) (fun k l => ?_) (fun k => ?_) (fun k => ?_) (fun k => ?_) (fun k => ?_) x y h0 h1
    · pointwise
    · pointwise
    · refine (congrFun (Memref.IsWhole.read_unread (Memref.isWhole_whole cc0_scratch2) _) _).trans ?_
      pointwise
    · pointwise
    · pointwise
    · pointwise
    · pointwise
  case piece3 =>
    refine (congrFun (chunk_7 _ _ _ _ _ _ _ _ _ _ (gs_vec ..) (gs_vec ..)) _).trans ?_
    refine chunk_uT _ _ _ _ _ 1792 4608 (by omega) rfl _ _ _ _ _ _ _ (fun k l => ?_) (fun k l => ?_) (fun k l => ?_) (fun k => ?_) (fun k => ?_) (fun k => ?_) (fun k => ?_) x y h0 h1
    · pointwise
    · pointwise
    · refine (congrFun (Memref.IsWhole.read_unread (Memref.isWhole_whole cc0_scratch2) _) _).trans ?_
      pointwise
    · pointwise
    · pointwise
    · pointwise
    · pointwise
  case piece4 =>
    refine (congrFun (chunk_6 _ _ _ _ _ _ _ _ _ _ (gs_vec ..) (gs_vec ..)) _).trans ?_
    refine chunk_uT _ _ _ _ _ 1536 4352 (by omega) rfl _ _ _ _ _ _ _ (fun k l => ?_) (fun k l => ?_) (fun k l => ?_) (fun k => ?_) (fun k => ?_) (fun k => ?_) (fun k => ?_) x y h0 h1
    · pointwise
    · pointwise
    · refine (congrFun (Memref.IsWhole.read_unread (Memref.isWhole_whole cc0_scratch2) _) _).trans ?_
      pointwise
    · pointwise
    · pointwise
    · pointwise
    · pointwise
  case piece5 =>
    refine (congrFun (chunk_5 _ _ _ _ _ _ _ _ _ _ (gs_vec ..) (gs_vec ..)) _).trans ?_
    refine chunk_uT _ _ _ _ _ 1280 4096 (by omega) rfl _ _ _ _ _ _ _ (fun k l => ?_) (fun k l => ?_) (fun k l => ?_) (fun k => ?_) (fun k => ?_) (fun k => ?_) (fun k => ?_) x y h0 h1
    · pointwise
    · pointwise
    · refine (congrFun (Memref.IsWhole.read_unread (Memref.isWhole_whole cc0_scratch2) _) _).trans ?_
      pointwise
    · pointwise
    · pointwise
    · pointwise
    · pointwise
  case piece6 =>
    refine (congrFun (chunk_4 _ _ _ _ _ _ _ _ _ _ (gs_vec ..) (gs_vec ..)) _).trans ?_
    refine chunk_uT _ _ _ _ _ 1024 3840 (by omega) rfl _ _ _ _ _ _ _ (fun k l => ?_) (fun k l => ?_) (fun k l => ?_) (fun k => ?_) (fun k => ?_) (fun k => ?_) (fun k => ?_) x y h0 h1
    · pointwise
    · pointwise
    · refine (congrFun (Memref.IsWhole.read_unread (Memref.isWhole_whole cc0_scratch2) _) _).trans ?_
      pointwise
    · pointwise
    · pointwise
    · pointwise
    · pointwise
  case piece7 =>
    refine (congrFun (chunk_3 _ _ _ _ _ _ _ _ _ _ (gs_vec ..) (gs_vec ..)) _).trans ?_
    refine chunk_uT _ _ _ _ _ 768 3584 (by omega) rfl _ _ _ _ _ _ _ (fun k l => ?_) (fun k l => ?_) (fun k l => ?_) (fun k => ?_) (fun k => ?_) (fun k => ?_) (fun k => ?_) x y h0 h1
    · pointwise
    · pointwise
    · refine (congrFun (Memref.IsWhole.read_unread (Memref.isWhole_whole cc0_scratch2) _) _).trans ?_
      pointwise
    · pointwise
    · pointwise
    · pointwise
    · pointwise
  case piece8 =>
    refine (congrFun (chunk_2 _ _ _ _ _ _ _ _ _ _ (gs_vec ..) (gs_vec ..)) _).trans ?_
    refine chunk_uT _ _ _ _ _ 512 3328 (by omega) rfl _ _ _ _ _ _ _ (fun k l => ?_) (fun k l => ?_) (fun k l => ?_) (fun k => ?_) (fun k => ?_) (fun k => ?_) (fun k => ?_) x y h0 h1
    · pointwise
    · pointwise
    · refine (congrFun (Memref.IsWhole.read_unread (Memref.isWhole_whole cc0_scratch2) _) _).trans ?_
      pointwise
    · pointwise
    · pointwise
    · pointwise
    · pointwise
  case piece9 =>
    refine (congrFun (chunk_1 _ _ _ _ _ _ _ _ _ _ (gs_vec ..) (gs_vec ..)) _).trans ?_
    refine chunk_uT _ _ _ _ _ 256 3072 (by omega) rfl _ _ _ _ _ _ _ (fun k l => ?_) (fun k l => ?_) (fun k l => ?_) (fun k => ?_) (fun k => ?_) (fun k => ?_) (fun k => ?_) x y h0 h1
    · pointwise
    · pointwise
    · refine (congrFun (Memref.IsWhole.read_unread (Memref.isWhole_whole cc0_scratch2) _) _).trans ?_
      pointwise
    · pointwise
    · pointwise
    · pointwise
    · pointwise
  case piece10 =>
    refine (congrFun (chunk_0 _ _ _ _ _ _ _ _ _ _ (gs_vec ..) (gs_vec ..)) _).trans ?_
    refine chunk_uT _ _ _ _ _ 0 2816 (by omega) rfl _ _ _ _ _ _ _ (fun k l => ?_) (fun k l => ?_) (fun k l => ?_) (fun k => ?_) (fun k => ?_) (fun k => ?_) (fun k => ?_) x y h0 (h1.trans (Nat.zero_add _).symm)
    · pointwise
    · pointwise
    · refine (congrFun (Memref.IsWhole.read_unread (Memref.isWhole_whole cc0_scratch2) _) _).trans ?_
      pointwise
    · pointwise
    · pointwise
    · pointwise
    · pointwise

theorem outA (c : Dev nD) (t : Fin cfg0.N) (h0 : t.val % 8 = 0) :
    (outsAt0 m c t.val t.isLt).1 = k0_pay1 (k0_pay88 (iblk m c 6 t)) (k0_pay89 (k0_pay3 (iblk m c 0 t))
      (uT (iblk m c 0 t) (iblk m c 1 t) (iblk m c 2 t) (iblk m c 3 t) (fun _ => (0 : EReal))) (iblk m c 4 t) (iblk m c 5 t)) := by
  rw [outsAt0_A m c t h0]
  frame_out
  clear h0
  refine congrArg (fun u => k0_pay1 (k0_pay88 (iblk m c 6 t)) (k0_pay89 (k0_pay3 (iblk m c 0 t)) u (iblk m c 4 t) (iblk m c 5 t))) ?_
  rw [View.readCov_eq_canon']
  funext y
  refine (congrArg (View.canon _) (Rect.emb_unit_full _ y)).trans ?_
  canon_tiles x h
  case piece0 =>
    refine (congrFun (chunk_10 _ _ _ _ _ _ _ _ _ _ (gs_vec ..) (gs_vec ..)) _).trans ?_
    refine chunk_uT _ _ _ _ _ 2560 5376 (by omega) rfl _ _ _ _ _ _ _ (fun k l => ?_) (fun k l => ?_) (fun k l => ?_) (fun k => ?_) (fun k => ?_) (fun k => ?_) (fun k => ?_) x y h0 h1
    · pointwise
    · pointwise
    · refine zero_load _ 2560 _ _ k l (fun y hy => ?_)
      refine zero_step 2304 _ _ _ y (by omega) ?_
      refine zero_step 2048 _ _ _ y (by omega) ?_
      refine zero_step 1792 _ _ _ y (by omega) ?_
      refine zero_step 1536 _ _ _ y (by omega) ?_
      refine zero_step 1280 _ _ _ y (by omega) ?_
      refine zero_step 1024 _ _ _ y (by omega) ?_
      refine zero_step 768 _ _ _ y (by omega) ?_
      refine zero_step 512 _ _ _ y (by omega) ?_
      refine zero_step 256 _ _ _ y (by omega) ?_
      refine zero_step 0 _ _ _ y (by omega) ?_
      exact zero_base _ _ zeros_at _ y
    · pointwise
    · pointwise
    · pointwise
    · pointwise
  case piece1 =>
    refine (congrFun (chunk_9 _ _ _ _ _ _ _ _ _ _ (gs_vec ..) (gs_vec ..)) _).trans ?_
    refine chunk_uT _ _ _ _ _ 2304 5120 (by omega) rfl _ _ _ _ _ _ _ (fun k l => ?_) (fun k l => ?_) (fun k l => ?_) (fun k => ?_) (fun k => ?_) (fun k => ?_) (fun k => ?_) x y h0 h1
    · pointwise
    · pointwise
    · refine zero_load _ 2304 _ _ k l (fun y hy => ?_)
      refine zero_step 2048 _ _ _ y (by omega) ?_
      refine zero_step 1792 _ _ _ y (by omega) ?_
      refine zero_step 1536 _ _ _ y (by omega) ?_
      refine zero_step 1280 _ _ _ y (by omega) ?_
      refine zero_step 1024 _ _ _ y (by omega) ?_
      refine zero_step 768 _ _ _ y (by omega) ?_
      refine zero_step 512 _ _ _ y (by omega) ?_
      refine zero_step 256 _ _ _ y (by omega) ?_
      refine zero_step 0 _ _ _ y (by omega) ?_
      exact zero_base _ _ zeros_at _ y
    · pointwise
    · pointwise
    · pointwise
    · pointwise
  case piece2 =>
    refine (congrFun (chunk_8 _ _ _ _ _ _ _ _ _ _ (gs_vec ..) (gs_vec ..)) _).trans ?_
    refine chunk_uT _ _ _ _ _ 2048 4864 (by omega) rfl _ _ _ _ _ _ _ (fun k l => ?_) (fun k l => ?_) (fun k l => ?_) (fun k => ?_) (fun k => ?_) (fun k => ?_) (fun k => ?_) x y h0 h1
    · pointwise
    · pointwise
    · refine zero_load _ 2048 _ _ k l (fun y hy => ?_)
      refine zero_step 1792 _ _ _ y (by omega) ?_
      refine zero_step 1536 _ _ _ y (by omega) ?_
      refine zero_step 1280 _ _ _ y (by omega) ?_
      refine zero_step 1024 _ _ _ y (by omega) ?_
      refine zero_step 768 _ _ _ y (by omega) ?_
      refine zero_step 512 _ _ _ y (by omega) ?_
      refine zero_step 256 _ _ _ y (by omega) ?_
      refine zero_step 0 _ _ _ y (by omega) ?_
      exact zero_base _ _ zeros_at _ y
    · pointwise
    · pointwise
    · pointwise
    · pointwise
  case piece3 =>
    refine (congrFun (chunk_7 _ _ _ _ _ _ _ _ _ _ (gs_vec ..) (gs_vec ..)) _).trans ?_
    refine chunk_uT _ _ _ _ _ 1792 4608 (by omega) rfl _ _ _ _ _ _ _ (fun k l => ?_) (fun k l => ?_) (fun k l => ?_) (fun k => ?_) (fun k => ?_) (fun k => ?_) (fun k => ?_) x y h0 h1
    · pointwise
    · pointwise
    · refine zero_load _ 1792 _ _ k l (fun y hy => ?_)
      refine zero_step 1536 _ _ _ y (by omega) ?_
      refine zero_step 1280 _ _ _ y (by omega) ?_
      refine zero_step 1024 _ _ _ y (by omega) ?_
      refine zero_step 768 _ _ _ y (by omega) ?_
      refine zero_step 512 _ _ _ y (by omega) ?_
      refine zero_step 256 _ _ _ y (by omega) ?_
      refine zero_step 0 _ _ _ y (by omega) ?_
      exact zero_base _ _ zeros_at _ y
    · pointwise
    · pointwise
    · pointwise
    · pointwise
  case piece4 =>
    refine (congrFun (chunk_6 _ _ _ _ _ _ _ _ _ _ (gs_vec ..) (gs_vec ..)) _).trans ?_
    refine chunk_uT _ _ _ _ _ 1536 4352 (by omega) rfl _ _ _ _ _ _ _ (fun k l => ?_) (fun k l => ?_) (fun k l => ?_) (fun k => ?_) (fun k => ?_) (fun k => ?_) (fun k => ?_) x y h0 h1
    · pointwise
    · pointwise
    · refine zero_load _ 1536 _ _ k l (fun y hy => ?_)
      refine zero_step 1280 _ _ _ y (by omega) ?_
      refine zero_step 1024 _ _ _ y (by omega) ?_
      refine zero_step 768 _ _ _ y (by omega) ?_
      refine zero_step 512 _ _ _ y (by omega) ?_
      refine zero_step 256 _ _ _ y (by omega) ?_
      refine zero_step 0 _ _ _ y (by omega) ?_
      exact zero_base _ _ zeros_at _ y
    · pointwise
    · pointwise
    · pointwise
    · pointwise
  case piece5 =>
    refine (congrFun (chunk_5 _ _ _ _ _ _ _ _ _ _ (gs_vec ..) (gs_vec ..)) _).trans ?_
    refine chunk_uT _ _ _ _ _ 1280 4096 (by omega) rfl _ _ _ _ _ _ _ (fun k l => ?_) (fun k l => ?_) (fun k l => ?_) (fun k => ?_) (fun k => ?_) (fun k => ?_) (fun k => ?_) x y h0 h1
    · pointwise
    · pointwise
    · refine zero_load _ 1280 _ _ k l (fun y hy => ?_)
      refine zero_step 1024 _ _ _ y (by omega) ?_
      refine zero_step 768 _ _ _ y (by omega) ?_
      refine zero_step 512 _ _ _ y (by omega) ?_
      refine zero_step 256 _ _ _ y (by omega) ?_
      refine zero_step 0 _ _ _ y (by omega) ?_
      exact zero_base _ _ zeros_at _ y
    · pointwise
    · pointwise
    · pointwise
    · pointwise
  case piece6 =>
    refine (congrFun (chunk_4 _ _ _ _ _ _ _ _ _ _ (gs_vec ..) (gs_vec ..)) _).trans ?_
    refine chunk_uT _ _ _ _ _ 1024 3840 (by omega) rfl _ _ _ _ _ _ _ (fun k l => ?_) (fun k l => ?_) (fun k l => ?_) (fun k => ?_) (fun k => ?_) (fun k => ?_) (fun k => ?_) x y h0 h1
    · pointwise
    · pointwise
    · refine zero_load _ 1024 _ _ k l (fun y hy => ?_)
      refine zero_step 768 _ _ _ y (by omega) ?_
      refine zero_step 512 _ _ _ y (by omega) ?_
      refine zero_step 256 _ _ _ y (by omega) ?_
      refine zero_step 0 _ _ _ y (by omega) ?_
      exact zero_base _ _ zeros_at _ y
    · pointwise
    · pointwise
    · pointwise
    · pointwise
  case piece7 =>
    refine (congrFun (chunk_3 _ _ _ _ _ _ _ _ _ _ (gs_vec ..) (gs_vec ..)) _).trans ?_
    refine chunk_uT _ _ _ _ _ 768 3584 (by omega) rfl _ _ _ _ _ _ _ (fun k l => ?_) (fun k l => ?_) (fun k l => ?_) (fun k => ?_) (fun k => ?_) (fun k => ?_) (fun k => ?_) x y h0 h1
    · pointwise
    · pointwise
    · refine zero_load _ 768 _ _ k l (fun y hy => ?_)
      refine zero_step 512 _ _ _ y (by omega) ?_
      refine zero_step 256 _ _ _ y (by omega) ?_
      refine zero_step 0 _ _ _ y (by omega) ?_
      exact zero_base _ _ zeros_at _ y
    · pointwise
    · pointwise
    · pointwise
    · pointwise
  case piece8 =>
    refine (congrFun (chunk_2 _ _ _ _ _ _ _ _ _ _ (gs_vec ..) (gs_vec ..)) _).trans ?_
    refine chunk_uT _ _ _ _ _ 512 3328 (by omega) rfl _ _ _ _ _ _ _ (fun k l => ?_) (fun k l => ?_) (fun k l => ?_) (fun k => ?_) (fun k => ?_) (fun k => ?_) (fun k => ?_) x y h0 h1
    · pointwise
    · pointwise
    · refine zero_load _ 512 _ _ k l (fun y hy => ?_)
      refine zero_step 256 _ _ _ y (by omega) ?_
      refine zero_step 0 _ _ _ y (by omega) ?_
      exact zero_base _ _ zeros_at _ y
    · pointwise
    · pointwise
    · pointwise
    · pointwise
  case piece9 =>
    refine (congrFun (chunk_1 _ _ _ _ _ _ _ _ _ _ (gs_vec ..) (gs_vec ..)) _).trans ?_
    refine chunk_uT _ _ _ _ _ 256 3072 (by omega) rfl _ _ _ _ _ _ _ (fun k l => ?_) (fun k l => ?_) (fun k l => ?_) (fun k => ?_) (fun k => ?_) (fun k => ?_) (fun k => ?_) x y h0 h1
    · pointwise
    · pointwise
    · refine zero_load _ 256 _ _ k l (fun y hy => ?_)
      refine zero_step 0 _ _ _ y (by omega) ?_
      exact zero_base _ _ zeros_at _ y
    · pointwise
    · pointwise
    · pointwise
    · pointwise
  case piece10 =>
    refine (congrFun (chunk_0 _ _ _ _ _ _ _ _ _ _ (gs_vec ..) (gs_vec ..)) _).trans ?_
    refine chunk_uT _ _ _ _ _ 0 2816 (by omega) rfl _ _ _ _ _ _ _ (fun k l => ?_) (fun k l => ?_) (fun k l => ?_) (fun k => ?_) (fun k => ?_) (fun k => ?_) (fun k => ?_) x y h0 (h1.trans (Nat.zero_add _).symm)
    · pointwise
    · pointwise
    · refine zero_load _ 0 _ _ k l (fun y hy => ?_)
      exact zero_base _ _ zeros_at _ y
    · pointwise
    · pointwise
    · pointwise
    · pointwise

theorem tailB (c : Dev nD) (t : Fin cfg0.N) (h0 : ¬ t.val % 8 = 0) :
    (outsAt0 m c t.val t.isLt).2 = tailT (iblk m c 0 t) (iblk m c 1 t) := by
  rw [outsAt0_B m c t h0]
  frame_out
  clear h0
  funext y
  canon_tiles x h
  case piece0 =>
    refine (congrFun (kept_10 _ _) _).trans ?_
    refine kept_tailT _ _ 2560 5376 (by omega) rfl _ (fun k l => ?_) x y h0 h1
    pointwise
  case piece1 =>
    refine (congrFun (kept_9 _ _) _).trans ?_
    refine kept_tailT _ _ 2304 5120 (by omega) rfl _ (fun k l => ?_) x y h0 h1
    pointwise
  case piece2 =>
    refine (congrFun (kept_8 _ _) _).trans ?_
    refine kept_tailT _ _ 2048 4864 (by omega) rfl _ (fun k l => ?_) x y h0 h1
    pointwise
  case piece3 =>
    refine (congrFun (kept_7 _ _) _).trans ?_
    refine kept_tailT _ _ 1792 4608 (by omega) rfl _ (fun k l => ?_) x y h0 h1
    pointwise
  case piece4 =>
    refine (congrFun (kept_6 _ _) _).trans ?_
    refine kept_tailT _ _ 1536 4352 (by omega) rfl _ (fun k l => ?_) x y h0 h1
    pointwise
  case piece5 =>
    refine (congrFun (kept_5 _ _) _).trans ?_
    refine kept_tailT _ _ 1280 4096 (by omega) rfl _ (fun k l => ?_) x y h0 h1
    pointwise
  case piece6 =>
    refine (congrFun (kept_4 _ _) _).trans ?_
    refine kept_tailT _ _ 1024 3840 (by omega) rfl _ (fun k l => ?_) x y h0 h1
    pointwise
  case piece7 =>
    refine (congrFun (kept_3 _ _) _).trans ?_
    refine kept_tailT _ _ 768 3584 (by omega) rfl _ (fun k l => ?_) x y h0 h1
    pointwise
  case piece8 =>
    refine (congrFun (kept_2 _ _) _).trans ?_
    refine kept_tailT _ _ 512 3328 (by omega) rfl _ (fun k l => ?_) x y h0 h1
    pointwise
  case piece9 =>
    refine (congrFun (kept_1 _ _) _).trans ?_
    refine kept_tailT _ _ 256 3072 (by omega) rfl _ (fun k l => ?_) x y h0 h1
    pointwise
  case piece10 =>
    refine (congrFun (kept_0 _ _) _).trans ?_
    refine kept_tailT _ _ 0 2816 (by omega) rfl _ (fun k l => ?_) x y h0 (h1.trans (Nat.zero_add _).symm)
    pointwise

theorem tailA (c : Dev nD) (t : Fin cfg0.N) (h0 : t.val % 8 = 0) :
    (outsAt0 m c t.val t.isLt).2 = tailT (iblk m c 0 t) (iblk m c 1 t) := by
  rw [outsAt0_A m c t h0]
  frame_out
  clear h0
  funext y
  refine kept_step 2560 (by omega) _ _ _ _ (fun x y e0 e1 => (congrFun (kept_10 _ _) _).trans
    (kept_tailT _ _ 2560 5376 (by omega) rfl _ (fun k l => by pointwise) x y e0 e1)) (fun y hy => ?_) y (y 1).isLt
  refine kept_step 2304 (by omega) _ _ _ _ (fun x y e0 e1 => (congrFun (kept_9 _ _) _).trans
    (kept_tailT _ _ 2304 5120 (by omega) rfl _ (fun k l => by pointwise) x y e0 e1)) (fun y hy => ?_) y hy
  refine kept_step 2048 (by omega) _ _ _ _ (fun x y e0 e1 => (congrFun (kept_8 _ _) _).trans
    (kept_tailT _ _ 2048 4864 (by omega) rfl _ (fun k l => by pointwise) x y e0 e1)) (fun y hy => ?_) y hy
  refine kept_step 1792 (by omega) _ _ _ _ (fun x y e0 e1 => (congrFun (kept_7 _ _) _).trans
    (kept_tailT _ _ 1792 4608 (by omega) rfl _ (fun k l => by pointwise) x y e0 e1)) (fun y hy => ?_) y hy
  refine kept_step 1536 (by omega) _ _ _ _ (fun x y e0 e1 => (congrFun (kept_6 _ _) _).trans
    (kept_tailT _ _ 1536 4352 (by omega) rfl _ (fun k l => by pointwise) x y e0 e1)) (fun y hy => ?_) y hy
  refine kept_step 1280 (by omega) _ _ _ _ (fun x y e0 e1 => (congrFun (kept_5 _ _) _).trans
    (kept_tailT _ _ 1280 4096 (by omega) rfl _ (fun k l => by pointwise) x y e0 e1)) (fun y hy => ?_) y hy
  refine kept_step 1024 (by omega) _ _ _ _ (fun x y e0 e1 => (congrFun (kept_4 _ _) _).trans
    (kept_tailT _ _ 1024 3840 (by omega) rfl _ (fun k l => by pointwise) x y e0 e1)) (fun y hy => ?_) y hy
  refine kept_step 768 (by omega) _ _ _ _ (fun x y e0 e1 => (congrFun (kept_3 _ _) _).trans
    (kept_tailT _ _ 768 3584 (by omega) rfl _ (fun k l => by pointwise) x y e0 e1)) (fun y hy => ?_) y hy
  refine kept_step 512 (by omega) _ _ _ _ (fun x y e0 e1 => (congrFun (kept_2 _ _) _).trans
    (kept_tailT _ _ 512 3328 (by omega) rfl _ (fun k l => by pointwise) x y e0 e1)) (fun y hy => ?_) y hy
  refine kept_step 256 (by omega) _ _ _ _ (fun x y e0 e1 => (congrFun (kept_1 _ _) _).trans
    (kept_tailT _ _ 256 3072 (by omega) rfl _ (fun k l => by pointwise) x y e0 e1)) (fun y hy => ?_) y hy
  refine kept_step 0 (by omega) _ _ _ _ (fun x y e0 e1 => (congrFun (kept_0 _ _) _).trans
    (kept_tailT _ _ 0 2816 (by omega) rfl _ (fun k l => by pointwise) x y e0 e1)) (fun y hy => ?_) y hy
  omega

end Cert.Ffn
-- ==== Proof.Ffn.Reads.lean ====
module

public import proofs.«01_k».proof.Proof.Ffn.Tile

@[expose] public section

set_option maxRecDepth 16384

noncomputable section

namespace Cert.Ffn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0) :=
  (by decide +kernel : ∀ t : Fin grid0.N, _)

theorem x_at (c : Dev nD) (t : Fin cfg0.N) (b : Fin 8) (s : Fin 4096) (r : Fin 512) (k : Fin 1024) (hb : b.val = t.val / 8)
    (hs : s.val = t.val % 8 * 512 + r.val) :
    iblk m c 0 t (ix2 r k) = m ((c.tc : Thread nD τ).loc main_arg0) (ix3 b s k) := by
  blk_simp [iblk, V, idx t]
  entry_read
  pointwise
  blk_ext [idx t]

theorem up_at (c : Dev nD) (t : Fin cfg0.N) (k : Fin 1024) (f : Fin 5632) :
    iblk m c 1 t (ix2 k f) = m ((c.tc : Thread nD τ).loc main_arg1) (ix2 k f) := by
  blk_simp [iblk, V, idx t]
  entry_read
  pointwise
  blk_ext [idx t]

theorem cw_at (c : Dev nD) (t : Fin cfg0.N) (j : Fin 3) (f : Fin 2816) :
    iblk m c 2 t (ix2 j f) = m ((c.tc : Thread nD τ).loc main_arg2) (ix2 j f) := by
  blk_simp [iblk, V, idx t]
  blk_ext [idx t]

theorem cb_at (c : Dev nD) (t : Fin cfg0.N) (f : Fin 2816) :
    iblk m c 3 t (ix2 0 f) = m ((c.tc : Thread nD τ).loc main_arg3) (ix1 f) := by
  blk_simp [iblk, V, idx t]
  entry_read
  pointwise
  blk_ext [idx t]

theorem down_at (c : Dev nD) (t : Fin cfg0.N) (f : Fin 2816) (j : Fin 1024) :
    iblk m c 4 t (ix2 f j) = m ((c.tc : Thread nD τ).loc main_arg4) (ix2 f j) := by
  blk_simp [iblk, V, idx t]
  entry_read
  pointwise
  blk_ext [idx t]

theorem g_at (c : Dev nD) (t : Fin cfg0.N) (j : Fin 1024) :
    iblk m c 5 t (ix2 0 j) = m ((c.tc : Thread nD τ).loc main_arg5) (ix1 j) := by
  blk_simp [iblk, V, idx t]
  entry_read
  pointwise
  blk_ext [idx t]

theorem beta_at (c : Dev nD) (t : Fin cfg0.N) (j : Fin 1024) :
    iblk m c 6 t (ix2 0 j) = m ((c.tc : Thread nD τ).loc main_arg6) (ix1 j) := by
  blk_simp [iblk, V, idx t]
  entry_read
  pointwise
  blk_ext [idx t]

/-- The last two payloads: the layer norm of the residual sum, at a row and a column. -/
theorem norm_at (G B : Vec Ideal S1x1024 .f32) (X : Vec Ideal S512x1024 .f32) (U : Vec Ideal S512x2816 .bf16) (D : Vec Ideal S2816x1024 .bf16)
    (r : Fin 512) (j : Fin 1024) :
    k0_pay1 (k0_pay88 B) (k0_pay89 (k0_pay3 X) U D G) (ix2 r j)
      = normS (fun x => Ideal.ofBits FTy.f32 1071072509#32 * X (ix2 r x) + ∑ f : Fin 2816, U (ix2 r f) * D (ix2 f x))
        (fun x => G (ix2 0 x)) (fun x => B (ix2 0 x)) j := by
  pointwise [k0_pay1, k0_pay88, k0_pay89, k0_pay3, normS, meanS]

/-- The arguments as functions of coordinates. -/
abbrev aX (c : Dev nD) : Fin 8 → Fin 4096 → Fin 1024 → EReal := fun b s k => m ((c.tc : Thread nD τ).loc main_arg0) (ix3 b s k)
abbrev aU (c : Dev nD) : Fin 1024 → Fin 5632 → EReal := fun k f => m ((c.tc : Thread nD τ).loc main_arg1) (ix2 k f)
abbrev aW (c : Dev nD) : Fin 3 → Fin 2816 → EReal := fun w f => m ((c.tc : Thread nD τ).loc main_arg2) (ix2 w f)
abbrev aC (c : Dev nD) : Fin 2816 → EReal := fun f => m ((c.tc : Thread nD τ).loc main_arg3) (ix1 f)
abbrev aD (c : Dev nD) : Fin 2816 → Fin 1024 → EReal := fun f j => m ((c.tc : Thread nD τ).loc main_arg4) (ix2 f j)
abbrev aG (c : Dev nD) : Fin 1024 → EReal := fun j => m ((c.tc : Thread nD τ).loc main_arg5) (ix1 j)
abbrev aB (c : Dev nD) : Fin 1024 → EReal := fun j => m ((c.tc : Thread nD τ).loc main_arg6) (ix1 j)

theorem gateT_at (c : Dev nD) (t : Fin cfg0.N) (b : Fin 8) (s : Fin 4096) (r : Fin 512) (f : Fin 2816) (hb : b.val = t.val / 8)
    (hs : s.val = t.val % 8 * 512 + r.val) : gateT (iblk m c 0 t) (iblk m c 1 t) r f = gate (aX m c) (aU m c) b s f := by
  unfold gateT gate
  refine Finset.sum_congr rfl fun k _ => ?_
  rw [x_at m c t b s r k hb hs, up_at]

/-- The rows a point keeps, whichever point it is. -/
theorem tail_eq (c : Dev nD) (t : Fin cfg0.N) : (outsAt0 m c t.val t.isLt).2 = tailT (iblk m c 0 t) (iblk m c 1 t) := by
  by_cases h : t.val % 8 = 0
  · exact tailA m c t h
  · exact tailB m c t h

/-- The output block of a point, from the eight rows `tl` that stand before its tile. -/
theorem tile_at (c : Dev nD) (t : Fin cfg0.N) (b : Fin 8) (s : Fin 4096) (r : Fin 512) (j : Fin 1024) (tl : Vec Ideal S8x2816 .f32)
    (hb : b.val = t.val / 8) (hs : s.val = t.val % 8 * 512 + r.val)
    (h6 : ∀ f, backT (iblk m c 0 t) (iblk m c 1 t) tl 6 (by omega) r f = gateBack (aX m c) (aU m c) b s 2 f)
    (h7 : ∀ f, backT (iblk m c 0 t) (iblk m c 1 t) tl 7 (by omega) r f = gateBack (aX m c) (aU m c) b s 1 f) :
    k0_pay1 (k0_pay88 (iblk m c 6 t)) (k0_pay89 (k0_pay3 (iblk m c 0 t))
      (uT (iblk m c 0 t) (iblk m c 1 t) (iblk m c 2 t) (iblk m c 3 t) tl) (iblk m c 4 t) (iblk m c 5 t)) (ix2 r j)
      = outF (aX m c) (aU m c) (aW m c) (aC m c) (aD m c) (aG m c) (aB m c) b s j := by
  refine (norm_at _ _ _ _ _ r j).trans ?_
  unfold outF
  have hg : (fun x => iblk m c 5 t (ix2 0 x)) = aG m c := funext fun x => g_at m c t x
  have hβ : (fun x => iblk m c 6 t (ix2 0 x)) = aB m c := funext fun x => beta_at m c t x
  refine (congrArg₂ (fun g β => normS _ g β j) hg hβ).trans ?_
  refine congrArg (fun z => normS z _ _ j) (funext fun x => ?_)
  unfold resid
  rw [x_at m c t b s r x hb hs]
  refine congrArg _ (Finset.sum_congr rfl fun f _ => ?_)
  rw [down_at]
  refine congrArg (· * _) ?_
  show actS _ (convS (backT _ _ tl 6 _ r f) (backT _ _ tl 7 _ r f) (gateT _ _ r f) _ _ _ _) = _
  rw [h6, h7, gateT_at m c t b s r f hb hs]
  unfold act conv
  refine congrArg₂ actS (Finset.sum_congr rfl fun k _ => ?_) ?_
  · refine congrArg₂ (· * ·) (x_at m c t b s r k hb hs) (up_at m c t k _)
  · exact congr (congr (congrArg₂ (convS _ _ _) (cw_at m c t 0 f) (cw_at m c t 1 f)) (cw_at m c t 2 f)) (cb_at m c t f)

/-- The output block a point leaves, at a row and a column: the block's function at the row's place in its sequence. -/
theorem out_at (c : Dev nD) (t : Fin cfg0.N) (b : Fin 8) (s : Fin 4096) (r : Fin 512) (j : Fin 1024) (hb : b.val = t.val / 8)
    (hs : s.val = t.val % 8 * 512 + r.val) :
    (outsAt0 m c t.val t.isLt).1 (ix2 r j) = outF (aX m c) (aU m c) (aW m c) (aC m c) (aD m c) (aG m c) (aB m c) b s j := by
  have ht : t.val < 64 := t.isLt
  by_cases h : t.val % 8 = 0
  · rw [outA m c t h]
    have back : ∀ (o d : ℕ) (ho : o ≤ 8) (_ : o + d = 8) (f : Fin 2816),
        backT (iblk m c 0 t) (iblk m c 1 t) (fun _ => (0 : EReal)) o ho r f = gateBack (aX m c) (aU m c) b s d f := by
      intro o d ho hd f
      unfold backT gateBack
      by_cases hr : r.val + o < 8
      · rw [dif_pos hr, if_neg (by omega)]
      · rw [dif_neg hr, if_pos (by omega)]
        exact gateT_at m c t b _ _ f hb (by show s.val - d = t.val % 8 * 512 + (r.val + o - 8); omega)
    exact tile_at m c t b s r j _ hb hs (back 6 2 (by omega) rfl) (back 7 1 (by omega) rfl)
  · rw [outB m c t h]
    have back : ∀ (o d : ℕ) (ho : o ≤ 8) (_ : o + d = 8) (f : Fin 2816),
        backT (iblk m c 0 t) (iblk m c 1 t) (outsAt0 m c (t.val - 1) (by omega)).2 o ho r f = gateBack (aX m c) (aU m c) b s d f := by
      intro o d ho hd f
      have e := tail_eq m c ⟨t.val - 1, by show t.val - 1 < 64; omega⟩
      unfold backT gateBack
      rw [if_pos (by omega)]
      by_cases hr : r.val + o < 8
      · rw [dif_pos hr]
        refine (congrFun e _).trans ?_
        exact gateT_at m c ⟨t.val - 1, by show t.val - 1 < 64; omega⟩ b _ _ f (by show b.val = (t.val - 1) / 8; omega)
          (by show s.val - d = (t.val - 1) % 8 * 512 + (504 + (r.val + o)); omega)
      · rw [dif_neg hr]
        exact gateT_at m c t b _ _ f hb (by show s.val - d = t.val % 8 * 512 + (r.val + o - 8); omega)
    exact tile_at m c t b s r j _ hb hs (back 6 2 (by omega) rfl) (back 7 1 (by omega) rfl)

/-- The kernel's whole result. -/
def outArr (c : Dev nD) : Buf (Elt Ideal) ((c.tc : Thread nD τ).loc main_v6) := fun i =>
  outF (aX m c) (aU m c) (aW m c) (aC m c) (aD m c) (aG m c) (aB m c)
    ⟨(i 0).val / 4096, by have h : (i 0).val < 32768 := (i 0).isLt; omega⟩ ⟨(i 0).val % 4096, by omega⟩ (i 1)

theorem final (c : Dev nD) : Value.G7 m c = outArr m c := by
  refine (Value.final7 m c).symm.trans ?_
  refine (dats m 0 c).arrAt_eq_of_cover 7 _ (fun t hf => ?_) (fun i => (Value.covered_iff7 i).2 (by
    have h0 : (i 0).val < 32768 := (i 0).isLt; have h1 : (i 1).val < 1024 := (i 1).isLt; omega))
  rw [Value.flushed7]
  funext y
  obtain ⟨r, j, rfl⟩ : ∃ r j, y = ix2 (n0 := 512) (n1 := 1024) r j := ⟨y 0, y 1, by funext a; match a with | 0 => rfl | 1 => rfl⟩
  have ht : t.val < 64 := t.isLt
  have e0 : (((cfg0.win 7).blk t).view.emb (ix2 r j) 0).val = t.val * 512 + r.val := by
    blk_simp [idx t]
  have e1 : (((cfg0.win 7).blk t).view.emb (ix2 r j) 1).val = j.val := by
    blk_simp [idx t]
  refine (out_at m c t ⟨t.val / 8, by omega⟩ ⟨t.val % 8 * 512 + r.val, by omega⟩ r j rfl rfl).trans ?_
  show _ = outArr m c (((cfg0.win 7).blk t).view.emb (ix2 r j))
  unfold outArr
  congr 1
  · exact Fin.ext (by show t.val / 8 = _ / 4096; rw [e0]; omega)
  · exact Fin.ext (by show t.val % 8 * 512 + r.val = _ % 4096; rw [e0]; omega)
  · exact Fin.ext e1.symm

end Cert.Ffn
-- ==== Proof.Ffn.Ref.lean ====
module

public import proofs.«01_k».proof.Proof.Gen.ReferenceIdeal.Run
public import proofs.«01_k».proof.Proof.Ffn.Math

@[expose] public section

set_option maxRecDepth 16384

noncomputable section

namespace Cert.Ffn

open Idealize.ShloMosaic Idealize.ShloMosaic.TcCoe Idealize.SL.Sem
open Cert.ReferenceIdeal Cert.ReferenceIdeal.Gen Cert.ReferenceIdeal.Value

/-! The reference's term, cut into its steps, each read at an index. -/

/-- The reference's gate half of the up projection. -/
def gateR (X : FVec Ideal S8x4096x1024 .f32) (Wu : FVec Ideal S1024x5632 .f32) : FVec Ideal S8x4096x2816 .f32 :=
  extractStridedSlice S8x4096x2816 ![0, 0, 2816] (Host.dotGeneral dot_S8x4096x1024_S1024x5632_S8x4096x5632_2_0_01_1_n_n none X Wu)
    slices_S8x4096x5632_S8x4096x2816_0_0_2816

/-- Two rows of zeros in front of every sequence. -/
def padR (E : FVec Ideal S8x4096x2816 .f32) : FVec Ideal S8x4098x2816 .f32 :=
  pad S8x4098x2816 ![0, 2, 0] ![0, 0, 0] ![0, 0, 0] E (sitofp .f32 (constantI S_ 32 0#32)) pads_S8x4096x2816_S8x4098x2816_000_200_000 h_S_

/-- The sum of the shifted products. -/
def convR (P : FVec Ideal S8x4098x2816 .f32) (CW : FVec Ideal S3x2816 .f32) (CB : FVec Ideal S2816 .f32) : FVec Ideal S8x4096x2816 .f32 :=
  addf (addf (addf (mulf (extractStridedSlice S8x4096x2816 ![0, 0, 0] P slices_S8x4098x2816_S8x4096x2816_0_0_0) (broadcastInDim S8x4096x2816 ![0, 1,
    2] bcast_S1x1x2816_S8x4096x2816_0_1_2 (broadcastInDim S1x1x2816 ![2] bcast_S2816_S1x1x2816_2 (shapeCast _ (extractStridedSlice S1x2816 ![0, 0] CW
    slices_S3x2816_S1x2816_0_0) shapeCasts_S1x2816_S2816)))) (mulf (extractStridedSlice S8x4096x2816 ![0, 1, 0] P
    slices_S8x4098x2816_S8x4096x2816_0_1_0) (broadcastInDim S8x4096x2816 ![0, 1, 2] bcast_S1x1x2816_S8x4096x2816_0_1_2 (broadcastInDim S1x1x2816 ![2]
    bcast_S2816_S1x1x2816_2 (shapeCast _ (extractStridedSlice S1x2816 ![1, 0] CW slices_S3x2816_S1x2816_1_0) shapeCasts_S1x2816_S2816))))) (mulf
    (extractStridedSlice S8x4096x2816 ![0, 2, 0] P slices_S8x4098x2816_S8x4096x2816_0_2_0) (broadcastInDim S8x4096x2816 ![0, 1, 2]
    bcast_S1x1x2816_S8x4096x2816_0_1_2 (broadcastInDim S1x1x2816 ![2] bcast_S2816_S1x1x2816_2 (shapeCast _ (extractStridedSlice S1x2816 ![2, 0] CW
    slices_S3x2816_S1x2816_2_0) shapeCasts_S1x2816_S2816))))) (broadcastInDim S8x4096x2816 ![0, 1, 2] bcast_S1x1x2816_S8x4096x2816_0_1_2
    (broadcastInDim S1x1x2816 ![2] bcast_S2816_S1x1x2816_2 CB))

/-- GELU of the convolved gate times the value half. -/
def actR (C : FVec Ideal S8x4096x2816 .f32) (X : FVec Ideal S8x4096x1024 .f32) (Wu : FVec Ideal S1024x5632 .f32) : FVec Ideal S8x4096x2816 .f32 :=
  mulf (mulf C (mulf (broadcastInDim S8x4096x2816 ![] bcast_S_S8x4096x2816 (constant S_ .f32 0x3F000000#32)) (addf (broadcastInDim S8x4096x2816 ![]
    bcast_S_S8x4096x2816 (constant S_ .f32 0x3F800000#32)) (Host.tanh (mulf (broadcastInDim S8x4096x2816 ![] bcast_S_S8x4096x2816 (constant S_ .f32
    0x3F4C422A#32)) (addf C (mulf (broadcastInDim S8x4096x2816 ![] bcast_S_S8x4096x2816 (constant S_ .f32 0x3D372713#32)) (mulf (mulf C C) C))))))))
    (extractStridedSlice S8x4096x2816 ![0, 0, 0] (Host.dotGeneral dot_S8x4096x1024_S1024x5632_S8x4096x5632_2_0_01_1_n_n none X Wu)
    slices_S8x4096x5632_S8x4096x2816_0_0_0)

/-- The residual sum. -/
def residR (U : FVec Ideal S8x4096x2816 .f32) (X : FVec Ideal S8x4096x1024 .f32) (Wd : FVec Ideal S2816x1024 .f32) : FVec Ideal S8x4096x1024 .f32 :=
  addf (mulf (broadcastInDim S8x4096x1024 ![] bcast_S_S8x4096x1024 (constant S_ .f32 0x3FD744FD#32)) X) (Host.dotGeneral
    dot_S8x4096x2816_S2816x1024_S8x4096x1024_2_0_01_1_n_n none U Wd)

/-- The mean along the last axis, spread over it again. -/
def meanR (Z : FVec Ideal S8x4096x1024 .f32) : FVec Ideal S8x4096x1024 .f32 :=
  broadcastInDim S8x4096x1024 ![0, 1, 2] bcast_S8x4096x1_S8x4096x1024_0_1_2 (Host.divf (broadcastInDim S8x4096x1 ![0, 1] bcast_S8x4096_S8x4096x1_0_1
    (Host.reduceAdd Z (constant S_ .f32 0x00000000#32) reducesTo_S8x4096x1024_S8x4096_d2 h_S_)) (broadcastInDim S8x4096x1 ![] bcast_S_S8x4096x1
    (constant S_ .f32 0x44800000#32)))

/-- The layer norm, flattened to rows. -/
def normR (Z : FVec Ideal S8x4096x1024 .f32) (G B : FVec Ideal S1024 .f32) : FVec Ideal S32768x1024 .f32 :=
  shapeCast S32768x1024 (addf (mulf (mulf (subf Z (meanR Z)) (broadcastInDim S8x4096x1024 ![0, 1, 2] bcast_S8x4096x1_S8x4096x1024_0_1_2 (Host.rsqrt
    (addf (Host.divf (broadcastInDim S8x4096x1 ![0, 1] bcast_S8x4096_S8x4096x1_0_1 (Host.reduceAdd (mulf (subf Z (meanR Z)) (subf Z (meanR Z)))
    (constant S_ .f32 0x00000000#32) reducesTo_S8x4096x1024_S8x4096_d2 h_S_)) (broadcastInDim S8x4096x1 ![] bcast_S_S8x4096x1 (constant S_ .f32
    0x44800000#32))) (broadcastInDim S8x4096x1 ![] bcast_S_S8x4096x1 (constant S_ .f32 0x3727C5AC#32)))))) (broadcastInDim S8x4096x1024 ![0, 1, 2]
    bcast_S1x1x1024_S8x4096x1024_0_1_2 (broadcastInDim S1x1x1024 ![2] bcast_S1024_S1x1x1024_2 G))) (broadcastInDim S8x4096x1024 ![0, 1, 2]
    bcast_S1x1x1024_S8x4096x1024_0_1_2 (broadcastInDim S1x1x1024 ![2] bcast_S1024_S1x1x1024_2 B))) shapeCasts_S8x4096x1024_S32768x1024

theorem gateR_at (X : FVec Ideal S8x4096x1024 .f32) (Wu : FVec Ideal S1024x5632 .f32) (b : Fin 8) (s : Fin 4096) (f : Fin 2816) :
    gateR X Wu (ix3 b s f) = gate (fun b s k => X (ix3 b s k)) (fun k f => Wu (ix2 k f)) b s f := by
  pointwise [gateR, gate]

theorem padR_at (E : FVec Ideal S8x4096x2816 .f32) (b : Fin 8) (s : Fin 4098) (f : Fin 2816) :
    padR E (ix3 b s f) = if h : 2 ≤ s.val then E (ix3 b ⟨s.val - 2, by omega⟩ f) else (0 : EReal) := by
  have z : (FloatOps.sitofp FTy.f32 0#32 : Ideal .f32) = (0 : EReal) := by
    show ((((0#32 : BitVec 32).toInt : ℝ) : EReal)) = 0
    simp
  pointwise [padR]
  rw [z]
  by_cases h : 2 ≤ s.val
  · rw [dif_pos ⟨h, by omega⟩, dif_pos h]
  · rw [dif_neg (fun h' => h h'.1), dif_neg h]

theorem convR_at (P : FVec Ideal S8x4098x2816 .f32) (CW : FVec Ideal S3x2816 .f32) (CB : FVec Ideal S2816 .f32) (b : Fin 8) (s : Fin 4096) (f : Fin 2816) :
    convR P CW CB (ix3 b s f) = convS (P (ix3 b ⟨s.val, by omega⟩ f)) (P (ix3 b ⟨1 + s.val, by omega⟩ f)) (P (ix3 b ⟨2 + s.val, by omega⟩ f))
      (CW (ix2 0 f)) (CW (ix2 1 f)) (CW (ix2 2 f)) (CB (ix1 f)) := by
  pointwise [convR, convS]

theorem actR_at (C : FVec Ideal S8x4096x2816 .f32) (X : FVec Ideal S8x4096x1024 .f32) (Wu : FVec Ideal S1024x5632 .f32) (b : Fin 8) (s : Fin 4096) (f : Fin 2816) :
    actR C X Wu (ix3 b s f) = actS (∑ k : Fin 1024, X (ix3 b s k) * Wu (ix2 k ⟨f.val, by omega⟩)) (C (ix3 b s f)) := by
  pointwise [actR, actS]
  rw [← mul_assoc, mul_comm (C (ix3 b s f)) (Ideal.ofBits FTy.f32 1056964608#32)]

theorem residR_at (U : FVec Ideal S8x4096x2816 .f32) (X : FVec Ideal S8x4096x1024 .f32) (Wd : FVec Ideal S2816x1024 .f32) (b : Fin 8) (s : Fin 4096) (j : Fin 1024) :
    residR U X Wd (ix3 b s j) = Ideal.ofBits FTy.f32 1071072509#32 * X (ix3 b s j) + ∑ f : Fin 2816, U (ix3 b s f) * Wd (ix2 f j) := by
  pointwise [residR]

theorem meanR_at (Z : FVec Ideal S8x4096x1024 .f32) (b : Fin 8) (s : Fin 4096) (j : Fin 1024) :
    meanR Z (ix3 b s j) = meanS (fun x => Z (ix3 b s x)) := by
  pointwise [meanR, meanS]

theorem normR_at (Z : FVec Ideal S8x4096x1024 .f32) (G B : FVec Ideal S1024 .f32) (b : Fin 8) (s : Fin 4096) (j : Fin 1024) (i : Fin 32768)
    (hi : i.val = b.val * 4096 + s.val) :
    normR Z G B (ix2 i j) = normS (fun x => Z (ix3 b s x)) (fun x => G (ix1 x)) (fun x => B (ix1 x)) j := by
  have hb : (⟨i.val / 4096, by omega⟩ : Fin 8) = b := Fin.ext (by show i.val / 4096 = b.val; omega)
  have hs : (⟨i.val % 4096, by omega⟩ : Fin 4096) = s := Fin.ext (by show i.val % 4096 = s.val; omega)
  pointwise [normR, normS]
  simp only [hb, hs, meanR_at]
  rfl

variable (m' : (ℓ : Loc nD τ sig) → Buf (Elt Ideal) ℓ)

theorem ref_steps (c : Dev nD) : res_main_v69 m' c = normR (residR (actR (convR (padR (gateR (m' ((c.tc : Thread nD τ).loc main_arg0))
    (m' ((c.tc : Thread nD τ).loc main_arg1)))) (m' ((c.tc : Thread nD τ).loc main_arg2)) (m' ((c.tc : Thread nD τ).loc main_arg3)))
    (m' ((c.tc : Thread nD τ).loc main_arg0)) (m' ((c.tc : Thread nD τ).loc main_arg1))) (m' ((c.tc : Thread nD τ).loc main_arg0))
    (m' ((c.tc : Thread nD τ).loc main_arg4))) (m' ((c.tc : Thread nD τ).loc main_arg5)) (m' ((c.tc : Thread nD τ).loc main_arg6)) := rfl

/-- The reference's result at row `b * 4096 + s` and column `j`. -/
theorem ref_at (c : Dev nD) (b : Fin 8) (s : Fin 4096) (j : Fin 1024) (i : Fin 32768) (hi : i.val = b.val * 4096 + s.val) :
    res_main_v69 m' c (ix2 i j) = outF (fun b s k => m' ((c.tc : Thread nD τ).loc main_arg0) (ix3 b s k))
      (fun k f => m' ((c.tc : Thread nD τ).loc main_arg1) (ix2 k f)) (fun w f => m' ((c.tc : Thread nD τ).loc main_arg2) (ix2 w f))
      (fun f => m' ((c.tc : Thread nD τ).loc main_arg3) (ix1 f)) (fun f j => m' ((c.tc : Thread nD τ).loc main_arg4) (ix2 f j))
      (fun j => m' ((c.tc : Thread nD τ).loc main_arg5) (ix1 j)) (fun j => m' ((c.tc : Thread nD τ).loc main_arg6) (ix1 j)) b s j := by
  rw [ref_steps]
  refine (normR_at _ _ _ b s j i hi).trans ?_
  unfold outF
  refine congrArg (fun z => normS z _ _ j) (funext fun x => ?_)
  refine (residR_at _ _ _ b s x).trans ?_
  unfold resid
  refine congrArg _ (Finset.sum_congr rfl fun f _ => congrArg (· * _) ?_)
  refine (actR_at _ _ _ b s f).trans ?_
  unfold act
  refine congrArg _ ?_
  refine (convR_at _ _ _ b s f).trans ?_
  unfold conv
  have e0 : padR (gateR (m' ((c.tc : Thread nD τ).loc main_arg0)) (m' ((c.tc : Thread nD τ).loc main_arg1))) (ix3 b ⟨s.val, by omega⟩ f)
      = gateBack (fun b s k => m' ((c.tc : Thread nD τ).loc main_arg0) (ix3 b s k))
        (fun k f => m' ((c.tc : Thread nD τ).loc main_arg1) (ix2 k f)) b s 2 f := by
    rw [padR_at, gateBack]
    by_cases h : 2 ≤ s.val
    · rw [dif_pos h, if_pos h, gateR_at]
    · rw [dif_neg h, if_neg h]
  have e1 : padR (gateR (m' ((c.tc : Thread nD τ).loc main_arg0)) (m' ((c.tc : Thread nD τ).loc main_arg1))) (ix3 b ⟨1 + s.val, by omega⟩ f)
      = gateBack (fun b s k => m' ((c.tc : Thread nD τ).loc main_arg0) (ix3 b s k))
        (fun k f => m' ((c.tc : Thread nD τ).loc main_arg1) (ix2 k f)) b s 1 f := by
    rw [padR_at, gateBack]
    by_cases h : 1 ≤ s.val
    · rw [dif_pos (by show 2 ≤ 1 + s.val; omega), if_pos h, gateR_at]
      refine congrArg (fun q => gate _ _ b q f) (Fin.ext ?_)
      show 1 + s.val - 2 = s.val - 1
      omega
    · rw [dif_neg (by show ¬ 2 ≤ 1 + s.val; omega), if_neg h]
  have e2 : padR (gateR (m' ((c.tc : Thread nD τ).loc main_arg0)) (m' ((c.tc : Thread nD τ).loc main_arg1))) (ix3 b ⟨2 + s.val, by omega⟩ f)
      = gate (fun b s k => m' ((c.tc : Thread nD τ).loc main_arg0) (ix3 b s k))
        (fun k f => m' ((c.tc : Thread nD τ).loc main_arg1) (ix2 k f)) b s f := by
    rw [padR_at, dif_pos (by show 2 ≤ 2 + s.val; omega), gateR_at]
    refine congrArg (fun q => gate _ _ b q f) (Fin.ext ?_)
    show 2 + s.val - 2 = s.val
    omega
  rw [e0, e1, e2]

end Cert.Ffn
-- ==== Proof.In.Math.lean ====
/- The input projection of one token and one column, with the factor log₂ e that the queries' columns get. -/
module

public import Idealize.ShloMosaic.PureOps.Ideal
public import Idealize.ShloMosaic.PureOps.IdealRules
public import Idealize.ShloMosaic.Lib.Pointwise

@[expose] public section

set_option maxRecDepth 16384

noncomputable section

namespace Cert.In

open Idealize.ShloMosaic Idealize.ShloMosaic.TcCoe Idealize.SL.Sem

/-! Extended reals do not distribute in general; a finite factor that is not negative may be taken out of a sum all the same. -/

/-- A finite factor on the right of every term, taken out of the sum. -/
theorem sum_mul_right {ι : Type*} (s : Finset ι) (f : ι → EReal) (c : EReal) (c0 : 0 ≤ c) (c1 : c ≠ ⊤) :
    ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top c0 c1]

/-- The f32 constant log₂ e is a real number, and not negative. -/
theorem log2e_real : ∃ r : ℝ, 0 ≤ r ∧ Ideal.ofBits FTy.f32 1069066811#32 = (r : EReal) := by
  refine ⟨_, ?_, by simp [Ideal.ofBits, Ideal.ieee]; rfl⟩
  positivity

/-- The factor an input projection gives column `n`: log₂ e for the 512 query columns, one for the others. -/
def scaleS (n : ℕ) : EReal := if n < 512 then Ideal.ofBits FTy.f32 1069066811#32 else 1

/-- The factor is not negative. -/
theorem scaleS_nonneg (n : ℕ) : 0 ≤ scaleS n := by
  obtain ⟨r, r0, e⟩ := log2e_real
  unfold scaleS
  split
  · rw [e]; exact_mod_cast r0
  · exact zero_le_one

/-- The factor is finite. -/
theorem scaleS_ne_top (n : ℕ) : scaleS n ≠ ⊤ := by
  obtain ⟨r, r0, e⟩ := log2e_real
  unfold scaleS
  split
  · rw [e]; exact EReal.coe_ne_top r
  · exact EReal.coe_ne_top 1

/-- The projection of one row and one column, with the column's factor. -/
def projS (x w : Fin 1024 → EReal) (n : ℕ) : EReal := (∑ k, x k * w k) * scaleS n

/-- The same with the factor inside, on the weights. -/
theorem projS_inside (x w : Fin 1024 → EReal) (n : ℕ) : ∑ k, x k * (w k * scaleS n) = projS x w n := by
  unfold projS
  rw [← sum_mul_right _ _ _ (scaleS_nonneg n) (scaleS_ne_top n)]
  exact Finset.sum_congr rfl fun k _ => (mul_assoc _ _ _).symm

end Cert.In
-- ==== Proof.In.Even.lean ====
/- The input projection of an even layer: what the kernel's two result arrays hold. A grid point takes 512 tokens (`x_at`) and the whole of the
   scaled weights (`w_at`), and writes their products chunk by chunk (`out2`, `out3`); the 64 blocks fill the arrays (`finalA`, `finalB`). -/
module

public import proofs.«01_k».proof.Proof.Gen.Kernel3Ideal.Value
public import proofs.«01_k».proof.Proof.In.Math
public import Idealize.ShloMosaic.Lib.Pointwise
public import Idealize.ShloMosaic.Lib.Pipeline.ValueKit
public import Idealize.ShloMosaic.Lib.VecWindow

@[expose] public section

set_option maxRecDepth 16384

noncomputable section

namespace Cert.In.Even

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Which block of each array a grid point takes or fills. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

/-- What the grid finds in the tokens' array: the tokens, batch and position run together. -/
theorem V_x (c : Dev nD) : V m c main_v8 = shapeCast S32768x1024 (m ((c.tc : Thread nD τ).loc main_arg0)) shapeCasts_S8x4096x1024_S32768x1024 := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results <;> rfl

/-- What the grid finds in the weights' array: the weights, the first 512 columns times log₂ e. -/
theorem V_w (c : Dev nD) : V m c main_v9 = (truncf (F := Ideal) .bf16 (mulf (m ((c.tc : Thread nD τ).loc main_arg1) : FVec Ideal S1024x3840 .f32)
    (broadcastInDim S1024x3840 ![0, 1] bcast_S1x3840_S1024x3840_0_1 (broadcastInDim S1x3840 ![1] bcast_S3840_S1x3840_1
      (select (cmpi .slt (iotaInDim S3840 32 0) (broadcastInDim S3840 ![] bcast_S_S3840 (constantI S_ 32 512#32)))
        (broadcastInDim S3840 ![] bcast_S_S3840 (constant S_ .f32 0x3FB8AA3B#32))
        (broadcastInDim S3840 ![] bcast_S_S3840 (constant S_ .f32 0x3F800000#32)))))) bitsLt_bf16_f32 : FVec Ideal S1024x3840 .bf16) := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results <;> rfl

/-- Batch and position run together: row 4096·b + s is token s of batch b. -/
theorem rows_at (A : Vec Ideal S8x4096x1024 .f32) (R : Fin 32768) (k : Fin 1024) (b : Fin 8) (s : Fin 4096) (e : R.val = b.val * 4096 + s.val) :
    (shapeCast S32768x1024 A shapeCasts_S8x4096x1024_S32768x1024 : Vec Ideal S32768x1024 .f32) (ix2 R k) = A (ix3 b s k) := by
  pointwise
  congr 1
  have h0 : b.val < 8 := b.isLt
  have h1 : s.val < 4096 := s.isLt
  funext a
  match a with
  | 0 => exact Fin.ext (by show R.val / 4096 = b.val; omega)
  | 1 => exact Fin.ext (by show R.val % 4096 = s.val; omega)
  | 2 => rfl

/-- A row of a point's block of tokens is a token. -/
theorem x_at (c : Dev nD) (t : Fin cfg0.N) (b : Fin 8) (s : Fin 4096) (r : Fin 512) (k : Fin 1024) (hb : t.val * 512 + r.val = b.val * 4096 + s.val) :
    iblk m c 0 t (ix2 r k) = m ((c.tc : Thread nD τ).loc main_arg0) (ix3 b s k) := by
  obtain ⟨R, hR⟩ : ∃ R : Fin 32768, R.val = t.val * 512 + r.val := ⟨⟨t.val * 512 + r.val, by have ht : t.val < 64 := t.isLt; have hr : r.val < 512 := r.isLt; omega⟩, rfl⟩
  blk_simp [iblk, idx t]
  have e : (win0_0.blk t).view.emb (ix2 r k) = ix2 (n0 := 32768) (n1 := 1024) R k := by
    blk_ext [idx t, hR]
  refine (congrFun (V_x m c) _).trans ((congrArg _ e).trans ?_)
  exact rows_at _ R k b s (hR.trans hb)

/-- The arguments as functions of coordinates. -/
abbrev aX (c : Dev nD) : Fin 8 → Fin 4096 → Fin 1024 → EReal := fun b s k => m ((c.tc : Thread nD τ).loc main_arg0) (ix3 b s k)
abbrev aW (c : Dev nD) : Fin 1024 → Fin 3840 → EReal := fun k n => m ((c.tc : Thread nD τ).loc main_arg1) (ix2 k n)

/-- A point's block of weights is the whole of them, each with its column's factor. -/
theorem w_at (c : Dev nD) (t : Fin cfg0.N) (k : Fin 1024) (n : Fin 3840) :
    iblk m c 1 t (ix2 k n) = aW m c k n * scaleS n.val := by
  blk_simp [iblk, idx t]
  have e : (win0_1.blk t).view.emb (ix2 k n) = ix2 (n0 := 1024) (n1 := 3840) k n := by
    blk_ext [idx t]
  refine (congrFun (V_w m c) _).trans ((congrArg _ e).trans ?_)
  pointwise [scaleS]
  have hn : n.val < 3840 := n.isLt
  rw [show IntOp.cmpi CmpIPredicate.slt (BitVec.ofNat 32 n.val) 512#32 = BitVec.ofBool (decide (n.val < 512)) by word_cmp]
  by_cases h : n.val < 512 <;> simp [h, Scalar.select]

/-- A row of the input block against a column of the weights. -/
def dotT (X : Vec Ideal S512x1024 .f32) (W : Vec Ideal S1024x3840 .bf16) (r : Fin 512) (n : Fin 3840) : EReal :=
  ∑ k : Fin 1024, (X (ix2 r k) : EReal) * W (ix2 k n)

/-- What a point writes to the first result: the first 1536 columns. -/
theorem out2 (X : Vec Ideal S512x1024 .f32) (W : Vec Ideal S1024x3840 .bf16) (r : Fin 512) (j : Fin 1536) :
    out0_2 X W (ix2 r j) = dotT X W r ⟨j.val, by omega⟩ := by
  unfold out0_2
  canon_tiles x h
  all_goals pointwise [k0_pay1, k0_pay2, k0_pay3, dotT]
  all_goals refine Finset.sum_congr rfl fun k _ => ?_
  all_goals
    congr 3
    all_goals (try (refine Fin.ext ?_; simp at h0 h1 ⊢; omega))

/-- What a point writes to the second result: the other columns. -/
theorem out3 (X : Vec Ideal S512x1024 .f32) (W : Vec Ideal S1024x3840 .bf16) (r : Fin 512) (j : Fin 2304) :
    out0_3 X W (ix2 r j) = dotT X W r ⟨1536 + j.val, by omega⟩ := by
  unfold out0_3
  canon_tiles x h
  all_goals pointwise [k0_pay1, k0_pay4, k0_pay5, k0_pay6, dotT]
  all_goals refine Finset.sum_congr rfl fun k _ => ?_
  all_goals
    congr 3
    all_goals (try (refine Fin.ext ?_; simp at h0 h1 ⊢; omega))

/-- A block of products against the whole weights, read back as the projection of a token. -/
theorem dot_at (c : Dev nD) (t : Fin cfg0.N) (r : Fin 512) (n : Fin 3840) (b : Fin 8) (s : Fin 4096)
    (hb : t.val * 512 + r.val = b.val * 4096 + s.val) :
    dotT (iblk m c 0 t) (iblk m c 1 t) r n = projS (aX m c b s) (fun k => aW m c k n) n.val := by
  refine Eq.trans ?_ (projS_inside _ _ _)
  unfold dotT
  refine Finset.sum_congr rfl fun k _ => ?_
  exact congrArg₂ (fun a b : EReal => a * b) (x_at m c t b s r k hb) (w_at m c t k n)

/-- The kernel's two results: row 4096·b + s, column n. -/
def kA (c : Dev nD) : Vec Ideal S32768x1536 .bf16 := fun i =>
  projS (aX m c ⟨(i 0).val / 4096, by have h : (i 0).val < 32768 := (i 0).isLt; omega⟩ ⟨(i 0).val % 4096, by omega⟩)
    (fun k => aW m c k ⟨(i 1).val, by have h : (i 1).val < 1536 := (i 1).isLt; omega⟩) (i 1).val
def kB (c : Dev nD) : Vec Ideal S32768x2304 .f32 := fun i =>
  projS (aX m c ⟨(i 0).val / 4096, by have h : (i 0).val < 32768 := (i 0).isLt; omega⟩ ⟨(i 0).val % 4096, by omega⟩)
    (fun k => aW m c k ⟨1536 + (i 1).val, by have h : (i 1).val < 2304 := (i 1).isLt; omega⟩) (1536 + (i 1).val)

/-- The first result array at the end. -/
theorem finalA (c : Dev nD) : (dats m 0 c).arrAt 2 cfg0.N = kA m c := by
  refine (dats m 0 c).arrAt_eq_of_covers 2 _ (by decide +kernel) fun t hf y => ?_
  obtain ⟨r, j, rfl⟩ : ∃ r j, y = ix2 (n0 := 512) (n1 := 1536) r j := ⟨y 0, y 1, by funext a; match a with | 0 => rfl | 1 => rfl⟩
  have ht : t.val < 64 := t.isLt
  have hr : r.val < 512 := r.isLt
  blk_simp
  rw [after0_2]
  refine (out2 _ _ r j).trans ?_
  obtain ⟨R, hR⟩ : ∃ R : Fin 32768, R.val = t.val * 512 + r.val := ⟨⟨t.val * 512 + r.val, by omega⟩, rfl⟩
  have e : (win0_2.blk t).view.emb (ix2 r j) = ix2 (n0 := 32768) (n1 := 1536) R j := by
    blk_ext [idx t, hR]
  refine Eq.trans ?_ (congrArg (kA m c) e).symm
  exact dot_at m c t r _ ⟨R.val / 4096, by omega⟩ ⟨R.val % 4096, by omega⟩ (by show t.val * 512 + r.val = R.val / 4096 * 4096 + R.val % 4096; omega)

/-- The second result array at the end. -/
theorem finalB (c : Dev nD) : (dats m 0 c).arrAt 3 cfg0.N = kB m c := by
  refine (dats m 0 c).arrAt_eq_of_covers 3 _ (by decide +kernel) fun t hf y => ?_
  obtain ⟨r, j, rfl⟩ : ∃ r j, y = ix2 (n0 := 512) (n1 := 2304) r j := ⟨y 0, y 1, by funext a; match a with | 0 => rfl | 1 => rfl⟩
  have ht : t.val < 64 := t.isLt
  have hr : r.val < 512 := r.isLt
  blk_simp
  rw [after0_3]
  refine (out3 _ _ r j).trans ?_
  obtain ⟨R, hR⟩ : ∃ R : Fin 32768, R.val = t.val * 512 + r.val := ⟨⟨t.val * 512 + r.val, by omega⟩, rfl⟩
  have e : (win0_3.blk t).view.emb (ix2 r j) = ix2 (n0 := 32768) (n1 := 2304) R j := by
    blk_ext [idx t, hR]
  refine Eq.trans ?_ (congrArg (kB m c) e).symm
  exact dot_at m c t r _ ⟨R.val / 4096, by omega⟩ ⟨R.val % 4096, by omega⟩ (by show t.val * 512 + r.val = R.val / 4096 * 4096 + R.val % 4096; omega)

end Cert.In.Even
-- ==== Proof.In.EvenRef.lean ====
/- The reference of the even layer's input projection, entry by entry. -/
module

public import proofs.«01_k».proof.Proof.Gen.Reference3Ideal.Run
public import proofs.«01_k».proof.Proof.In.Math
public import Idealize.ShloMosaic.Lib.Pointwise
public import Idealize.ShloMosaic.Lib.Tactic.WordOmega

@[expose] public section

set_option maxRecDepth 16384

noncomputable section

namespace Cert.In.EvenRef

open Idealize.ShloMosaic Idealize.ShloMosaic.TcCoe Idealize.SL.Sem
open Cert.Reference3Ideal Cert.Reference3Ideal.Gen

/-- The reference's projection before it is cut in two: every token against every column, times the column's factor. -/
def allR (X : FVec Ideal S8x4096x1024 .f32) (W : FVec Ideal S1024x3840 .f32) : FVec Ideal S8x4096x3840 .f32 :=
  mulf (Host.dotGeneral dot_S8x4096x1024_S1024x3840_S8x4096x3840_2_0_01_1_n_n none X W)
    (broadcastInDim S8x4096x3840 ![0, 1, 2] bcast_S1x1x3840_S8x4096x3840_0_1_2 (broadcastInDim S1x1x3840 ![2] bcast_S3840_S1x1x3840_2
      (select (cmpi .slt (iotaInDim S3840 32 0) (broadcastInDim S3840 ![] bcast_S_S3840 (constantI S_ 32 512#32)))
        (broadcastInDim S3840 ![] bcast_S_S3840 (constant S_ .f32 0x3FB8AA3B#32))
        (broadcastInDim S3840 ![] bcast_S_S3840 (constant S_ .f32 0x3F800000#32)))))

/-- One entry of it. -/
theorem all_at (X : FVec Ideal S8x4096x1024 .f32) (W : FVec Ideal S1024x3840 .f32) (b : Fin 8) (s : Fin 4096) (n : Fin 3840) :
    allR X W (ix3 b s n) = projS (fun k => X (ix3 b s k)) (fun k => W (ix2 k n)) n.val := by
  pointwise [allR, projS, scaleS]
  have hn : n.val < 3840 := n.isLt
  rw [show IntOp.cmpi CmpIPredicate.slt (BitVec.ofNat 32 n.val) 512#32 = BitVec.ofBool (decide (n.val < 512)) by word_cmp]
  by_cases h : n.val < 512 <;> simp [h, Scalar.select]

/-- Batch and position run together. -/
theorem flat_at (A : FVec Ideal S8x4096x3840 .f32) (R : Fin 32768) (n : Fin 3840) :
    (shapeCast S32768x3840 A shapeCasts_S8x4096x3840_S32768x3840 : FVec Ideal S32768x3840 .f32) (ix2 R n)
      = A (ix3 ⟨R.val / 4096, by omega⟩ ⟨R.val % 4096, by omega⟩ n) := by
  pointwise

/-- The reference's two results as it computes them. -/
def refA (X : FVec Ideal S8x4096x1024 .f32) (W : FVec Ideal S1024x3840 .f32) : FVec Ideal S32768x1536 .bf16 :=
  truncf .bf16 (extractStridedSlice S32768x1536 ![0, 0] (shapeCast S32768x3840 (allR X W) shapeCasts_S8x4096x3840_S32768x3840)
    slices_S32768x3840_S32768x1536_0_0) bitsLt_bf16_f32
def refB (X : FVec Ideal S8x4096x1024 .f32) (W : FVec Ideal S1024x3840 .f32) : FVec Ideal S32768x2304 .f32 :=
  extractStridedSlice S32768x2304 ![0, 1536] (shapeCast S32768x3840 (allR X W) shapeCasts_S8x4096x3840_S32768x3840)
    slices_S32768x3840_S32768x2304_0_1536

/-- The first 1536 columns of the reference's result. -/
theorem refA_at (X : FVec Ideal S8x4096x1024 .f32) (W : FVec Ideal S1024x3840 .f32) (R : Fin 32768) (j : Fin 1536) :
    refA X W (ix2 R j) = projS (fun k => X (ix3 ⟨R.val / 4096, by omega⟩ ⟨R.val % 4096, by omega⟩ k)) (fun k => W (ix2 k ⟨j.val, by omega⟩)) j.val := by
  refine Eq.trans ?_ (all_at X W ⟨R.val / 4096, by omega⟩ ⟨R.val % 4096, by omega⟩ ⟨j.val, by omega⟩)
  refine Eq.trans ?_ (flat_at (allR X W) R ⟨j.val, by omega⟩)
  unfold refA
  generalize (shapeCast S32768x3840 (allR X W) shapeCasts_S8x4096x3840_S32768x3840 : FVec Ideal S32768x3840 .f32) = A
  pointwise

/-- The other columns. -/
theorem refB_at (X : FVec Ideal S8x4096x1024 .f32) (W : FVec Ideal S1024x3840 .f32) (R : Fin 32768) (j : Fin 2304) :
    refB X W (ix2 R j) = projS (fun k => X (ix3 ⟨R.val / 4096, by omega⟩ ⟨R.val % 4096, by omega⟩ k)) (fun k => W (ix2 k ⟨1536 + j.val, by omega⟩)) (1536 + j.val) := by
  refine Eq.trans ?_ (all_at X W ⟨R.val / 4096, by omega⟩ ⟨R.val % 4096, by omega⟩ ⟨1536 + j.val, by omega⟩)
  refine Eq.trans ?_ (flat_at (allR X W) R ⟨1536 + j.val, by omega⟩)
  unfold refB
  generalize (shapeCast S32768x3840 (allR X W) shapeCasts_S8x4096x3840_S32768x3840 : FVec Ideal S32768x3840 .f32) = A
  pointwise

end Cert.In.EvenRef
-- ==== Proof.In.Odd.lean ====
/- The input projection of an odd layer: what the kernel's two result arrays hold. A grid point takes 512 tokens (`x_at`) and the whole of the
   scaled weights (`w_at`), and writes their products chunk by chunk (`out2`, `out3`); the 64 blocks fill the arrays (`finalA`, `finalB`). -/
module

public import proofs.«01_k».proof.Proof.Gen.Kernel4Ideal.Value
public import proofs.«01_k».proof.Proof.In.Math
public import Idealize.ShloMosaic.Lib.Pointwise
public import Idealize.ShloMosaic.Lib.Pipeline.ValueKit
public import Idealize.ShloMosaic.Lib.VecWindow

@[expose] public section

set_option maxRecDepth 16384

noncomputable section

namespace Cert.In.Odd

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- Which block of each array a grid point takes or fills. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

/-- What the grid finds in the tokens' array: the tokens, batch and position run together. -/
theorem V_x (c : Dev nD) : V m c main_v8 = shapeCast S32768x1024 (m ((c.tc : Thread nD τ).loc main_arg0)) shapeCasts_S8x4096x1024_S32768x1024 := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results <;> rfl

/-- What the grid finds in the weights' array: the weights, the first 512 columns times log₂ e. -/
theorem V_w (c : Dev nD) : V m c main_v9 = (truncf (F := Ideal) .bf16 (mulf (m ((c.tc : Thread nD τ).loc main_arg1) : FVec Ideal S1024x2816 .f32)
    (broadcastInDim S1024x2816 ![0, 1] bcast_S1x2816_S1024x2816_0_1 (broadcastInDim S1x2816 ![1] bcast_S2816_S1x2816_1
      (select (cmpi .slt (iotaInDim S2816 32 0) (broadcastInDim S2816 ![] bcast_S_S2816 (constantI S_ 32 512#32)))
        (broadcastInDim S2816 ![] bcast_S_S2816 (constant S_ .f32 0x3FB8AA3B#32))
        (broadcastInDim S2816 ![] bcast_S_S2816 (constant S_ .f32 0x3F800000#32)))))) bitsLt_bf16_f32 : FVec Ideal S1024x2816 .bf16) := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results <;> rfl

/-- Batch and position run together: row 4096·b + s is token s of batch b. -/
theorem rows_at (A : Vec Ideal S8x4096x1024 .f32) (R : Fin 32768) (k : Fin 1024) (b : Fin 8) (s : Fin 4096) (e : R.val = b.val * 4096 + s.val) :
    (shapeCast S32768x1024 A shapeCasts_S8x4096x1024_S32768x1024 : Vec Ideal S32768x1024 .f32) (ix2 R k) = A (ix3 b s k) := by
  pointwise
  congr 1
  have h0 : b.val < 8 := b.isLt
  have h1 : s.val < 4096 := s.isLt
  funext a
  match a with
  | 0 => exact Fin.ext (by show R.val / 4096 = b.val; omega)
  | 1 => exact Fin.ext (by show R.val % 4096 = s.val; omega)
  | 2 => rfl

/-- A row of a point's block of tokens is a token. -/
theorem x_at (c : Dev nD) (t : Fin cfg0.N) (b : Fin 8) (s : Fin 4096) (r : Fin 512) (k : Fin 1024) (hb : t.val * 512 + r.val = b.val * 4096 + s.val) :
    iblk m c 0 t (ix2 r k) = m ((c.tc : Thread nD τ).loc main_arg0) (ix3 b s k) := by
  obtain ⟨R, hR⟩ : ∃ R : Fin 32768, R.val = t.val * 512 + r.val := ⟨⟨t.val * 512 + r.val, by have ht : t.val < 64 := t.isLt; have hr : r.val < 512 := r.isLt; omega⟩, rfl⟩
  blk_simp [iblk, idx t]
  have e : (win0_0.blk t).view.emb (ix2 r k) = ix2 (n0 := 32768) (n1 := 1024) R k := by
    blk_ext [idx t, hR]
  refine (congrFun (V_x m c) _).trans ((congrArg _ e).trans ?_)
  exact rows_at _ R k b s (hR.trans hb)

/-- The arguments as functions of coordinates. -/
abbrev aX (c : Dev nD) : Fin 8 → Fin 4096 → Fin 1024 → EReal := fun b s k => m ((c.tc : Thread nD τ).loc main_arg0) (ix3 b s k)
abbrev aW (c : Dev nD) : Fin 1024 → Fin 2816 → EReal := fun k n => m ((c.tc : Thread nD τ).loc main_arg1) (ix2 k n)

/-- A point's block of weights is the whole of them, each with its column's factor. -/
theorem w_at (c : Dev nD) (t : Fin cfg0.N) (k : Fin 1024) (n : Fin 2816) :
    iblk m c 1 t (ix2 k n) = aW m c k n * scaleS n.val := by
  blk_simp [iblk, idx t]
  have e : (win0_1.blk t).view.emb (ix2 k n) = ix2 (n0 := 1024) (n1 := 2816) k n := by
    blk_ext [idx t]
  refine (congrFun (V_w m c) _).trans ((congrArg _ e).trans ?_)
  pointwise [scaleS]
  have hn : n.val < 2816 := n.isLt
  rw [show IntOp.cmpi CmpIPredicate.slt (BitVec.ofNat 32 n.val) 512#32 = BitVec.ofBool (decide (n.val < 512)) by word_cmp]
  by_cases h : n.val < 512 <;> simp [h, Scalar.select]

/-- A row of the input block against a column of the weights. -/
def dotT (X : Vec Ideal S512x1024 .f32) (W : Vec Ideal S1024x2816 .bf16) (r : Fin 512) (n : Fin 2816) : EReal :=
  ∑ k : Fin 1024, (X (ix2 r k) : EReal) * W (ix2 k n)

/-- What a point writes to the first result: the first 1536 columns. -/
theorem out2 (X : Vec Ideal S512x1024 .f32) (W : Vec Ideal S1024x2816 .bf16) (r : Fin 512) (j : Fin 1536) :
    out0_2 X W (ix2 r j) = dotT X W r ⟨j.val, by omega⟩ := by
  unfold out0_2
  canon_tiles x h
  all_goals pointwise [k0_pay1, k0_pay2, k0_pay3, k0_pay4, k0_pay5, k0_pay6, k0_pay7, k0_pay13, dotT]
  all_goals refine Finset.sum_congr rfl fun k _ => ?_
  all_goals
    congr 3
    all_goals (try (refine Fin.ext ?_; simp at h0 h1 ⊢; omega))

/-- What a point writes to the second result: the other columns. -/
theorem out3 (X : Vec Ideal S512x1024 .f32) (W : Vec Ideal S1024x2816 .bf16) (r : Fin 512) (j : Fin 1280) :
    out0_3 X W (ix2 r j) = dotT X W r ⟨1536 + j.val, by omega⟩ := by
  unfold out0_3
  canon_tiles x h
  all_goals pointwise [k0_pay1, k0_pay8, k0_pay9, k0_pay10, k0_pay11, k0_pay12, k0_pay13, dotT]
  all_goals refine Finset.sum_congr rfl fun k _ => ?_
  all_goals
    congr 3
    all_goals (try (refine Fin.ext ?_; simp at h0 h1 ⊢; omega))

/-- A block of products against the whole weights, read back as the projection of a token. -/
theorem dot_at (c : Dev nD) (t : Fin cfg0.N) (r : Fin 512) (n : Fin 2816) (b : Fin 8) (s : Fin 4096)
    (hb : t.val * 512 + r.val = b.val * 4096 + s.val) :
    dotT (iblk m c 0 t) (iblk m c 1 t) r n = projS (aX m c b s) (fun k => aW m c k n) n.val := by
  refine Eq.trans ?_ (projS_inside _ _ _)
  unfold dotT
  refine Finset.sum_congr rfl fun k _ => ?_
  exact congrArg₂ (fun a b : EReal => a * b) (x_at m c t b s r k hb) (w_at m c t k n)

/-- The kernel's two results: row 4096·b + s, column n. -/
def kA (c : Dev nD) : Vec Ideal S32768x1536 .bf16 := fun i =>
  projS (aX m c ⟨(i 0).val / 4096, by have h : (i 0).val < 32768 := (i 0).isLt; omega⟩ ⟨(i 0).val % 4096, by omega⟩)
    (fun k => aW m c k ⟨(i 1).val, by have h : (i 1).val < 1536 := (i 1).isLt; omega⟩) (i 1).val
def kB (c : Dev nD) : Vec Ideal S32768x1280 .f32 := fun i =>
  projS (aX m c ⟨(i 0).val / 4096, by have h : (i 0).val < 32768 := (i 0).isLt; omega⟩ ⟨(i 0).val % 4096, by omega⟩)
    (fun k => aW m c k ⟨1536 + (i 1).val, by have h : (i 1).val < 1280 := (i 1).isLt; omega⟩) (1536 + (i 1).val)

/-- The first result array at the end. -/
theorem finalA (c : Dev nD) : (dats m 0 c).arrAt 2 cfg0.N = kA m c := by
  refine (dats m 0 c).arrAt_eq_of_covers 2 _ (by decide +kernel) fun t hf y => ?_
  obtain ⟨r, j, rfl⟩ : ∃ r j, y = ix2 (n0 := 512) (n1 := 1536) r j := ⟨y 0, y 1, by funext a; match a with | 0 => rfl | 1 => rfl⟩
  have ht : t.val < 64 := t.isLt
  have hr : r.val < 512 := r.isLt
  blk_simp
  rw [after0_2]
  refine (out2 _ _ r j).trans ?_
  obtain ⟨R, hR⟩ : ∃ R : Fin 32768, R.val = t.val * 512 + r.val := ⟨⟨t.val * 512 + r.val, by omega⟩, rfl⟩
  have e : (win0_2.blk t).view.emb (ix2 r j) = ix2 (n0 := 32768) (n1 := 1536) R j := by
    blk_ext [idx t, hR]
  refine Eq.trans ?_ (congrArg (kA m c) e).symm
  exact dot_at m c t r _ ⟨R.val / 4096, by omega⟩ ⟨R.val % 4096, by omega⟩ (by show t.val * 512 + r.val = R.val / 4096 * 4096 + R.val % 4096; omega)

/-- The second result array at the end. -/
theorem finalB (c : Dev nD) : (dats m 0 c).arrAt 3 cfg0.N = kB m c := by
  refine (dats m 0 c).arrAt_eq_of_covers 3 _ (by decide +kernel) fun t hf y => ?_
  obtain ⟨r, j, rfl⟩ : ∃ r j, y = ix2 (n0 := 512) (n1 := 1280) r j := ⟨y 0, y 1, by funext a; match a with | 0 => rfl | 1 => rfl⟩
  have ht : t.val < 64 := t.isLt
  have hr : r.val < 512 := r.isLt
  blk_simp
  rw [after0_3]
  refine (out3 _ _ r j).trans ?_
  obtain ⟨R, hR⟩ : ∃ R : Fin 32768, R.val = t.val * 512 + r.val := ⟨⟨t.val * 512 + r.val, by omega⟩, rfl⟩
  have e : (win0_3.blk t).view.emb (ix2 r j) = ix2 (n0 := 32768) (n1 := 1280) R j := by
    blk_ext [idx t, hR]
  refine Eq.trans ?_ (congrArg (kB m c) e).symm
  exact dot_at m c t r _ ⟨R.val / 4096, by omega⟩ ⟨R.val % 4096, by omega⟩ (by show t.val * 512 + r.val = R.val / 4096 * 4096 + R.val % 4096; omega)

end Cert.In.Odd
-- ==== Proof.In.OddRef.lean ====
/- The reference of the odd layer's input projection, entry by entry. -/
module

public import proofs.«01_k».proof.Proof.Gen.Reference4Ideal.Run
public import proofs.«01_k».proof.Proof.In.Math
public import Idealize.ShloMosaic.Lib.Pointwise
public import Idealize.ShloMosaic.Lib.Tactic.WordOmega

@[expose] public section

set_option maxRecDepth 16384

noncomputable section

namespace Cert.In.OddRef

open Idealize.ShloMosaic Idealize.ShloMosaic.TcCoe Idealize.SL.Sem
open Cert.Reference4Ideal Cert.Reference4Ideal.Gen

/-- The reference's projection before it is cut in two: every token against every column, times the column's factor. -/
def allR (X : FVec Ideal S8x4096x1024 .f32) (W : FVec Ideal S1024x2816 .f32) : FVec Ideal S8x4096x2816 .f32 :=
  mulf (Host.dotGeneral dot_S8x4096x1024_S1024x2816_S8x4096x2816_2_0_01_1_n_n none X W)
    (broadcastInDim S8x4096x2816 ![0, 1, 2] bcast_S1x1x2816_S8x4096x2816_0_1_2 (broadcastInDim S1x1x2816 ![2] bcast_S2816_S1x1x2816_2
      (select (cmpi .slt (iotaInDim S2816 32 0) (broadcastInDim S2816 ![] bcast_S_S2816 (constantI S_ 32 512#32)))
        (broadcastInDim S2816 ![] bcast_S_S2816 (constant S_ .f32 0x3FB8AA3B#32))
        (broadcastInDim S2816 ![] bcast_S_S2816 (constant S_ .f32 0x3F800000#32)))))

/-- One entry of it. -/
theorem all_at (X : FVec Ideal S8x4096x1024 .f32) (W : FVec Ideal S1024x2816 .f32) (b : Fin 8) (s : Fin 4096) (n : Fin 2816) :
    allR X W (ix3 b s n) = projS (fun k => X (ix3 b s k)) (fun k => W (ix2 k n)) n.val := by
  pointwise [allR, projS, scaleS]
  have hn : n.val < 2816 := n.isLt
  rw [show IntOp.cmpi CmpIPredicate.slt (BitVec.ofNat 32 n.val) 512#32 = BitVec.ofBool (decide (n.val < 512)) by word_cmp]
  by_cases h : n.val < 512 <;> simp [h, Scalar.select]

/-- Batch and position run together. -/
theorem flat_at (A : FVec Ideal S8x4096x2816 .f32) (R : Fin 32768) (n : Fin 2816) :
    (shapeCast S32768x2816 A shapeCasts_S8x4096x2816_S32768x2816 : FVec Ideal S32768x2816 .f32) (ix2 R n)
      = A (ix3 ⟨R.val / 4096, by omega⟩ ⟨R.val % 4096, by omega⟩ n) := by
  pointwise

/-- The reference's two results as it computes them. -/
def refA (X : FVec Ideal S8x4096x1024 .f32) (W : FVec Ideal S1024x2816 .f32) : FVec Ideal S32768x1536 .bf16 :=
  truncf .bf16 (extractStridedSlice S32768x1536 ![0, 0] (shapeCast S32768x2816 (allR X W) shapeCasts_S8x4096x2816_S32768x2816)
    slices_S32768x2816_S32768x1536_0_0) bitsLt_bf16_f32
def refB (X : FVec Ideal S8x4096x1024 .f32) (W : FVec Ideal S1024x2816 .f32) : FVec Ideal S32768x1280 .f32 :=
  extractStridedSlice S32768x1280 ![0, 1536] (shapeCast S32768x2816 (allR X W) shapeCasts_S8x4096x2816_S32768x2816)
    slices_S32768x2816_S32768x1280_0_1536

/-- The first 1536 columns of the reference's result. -/
theorem refA_at (X : FVec Ideal S8x4096x1024 .f32) (W : FVec Ideal S1024x2816 .f32) (R : Fin 32768) (j : Fin 1536) :
    refA X W (ix2 R j) = projS (fun k => X (ix3 ⟨R.val / 4096, by omega⟩ ⟨R.val % 4096, by omega⟩ k)) (fun k => W (ix2 k ⟨j.val, by omega⟩)) j.val := by
  refine Eq.trans ?_ (all_at X W ⟨R.val / 4096, by omega⟩ ⟨R.val % 4096, by omega⟩ ⟨j.val, by omega⟩)
  refine Eq.trans ?_ (flat_at (allR X W) R ⟨j.val, by omega⟩)
  unfold refA
  generalize (shapeCast S32768x2816 (allR X W) shapeCasts_S8x4096x2816_S32768x2816 : FVec Ideal S32768x2816 .f32) = A
  pointwise

/-- The other columns. -/
theorem refB_at (X : FVec Ideal S8x4096x1024 .f32) (W : FVec Ideal S1024x2816 .f32) (R : Fin 32768) (j : Fin 1280) :
    refB X W (ix2 R j) = projS (fun k => X (ix3 ⟨R.val / 4096, by omega⟩ ⟨R.val % 4096, by omega⟩ k)) (fun k => W (ix2 k ⟨1536 + j.val, by omega⟩)) (1536 + j.val) := by
  refine Eq.trans ?_ (all_at X W ⟨R.val / 4096, by omega⟩ ⟨R.val % 4096, by omega⟩ ⟨1536 + j.val, by omega⟩)
  refine Eq.trans ?_ (flat_at (allR X W) R ⟨1536 + j.val, by omega⟩)
  unfold refB
  generalize (shapeCast S32768x2816 (allR X W) shapeCasts_S8x4096x2816_S32768x2816 : FVec Ideal S32768x2816 .f32) = A
  pointwise

end Cert.In.OddRef
-- ==== Proof.In.Claims.lean ====
/- The claims about the two input projections: the kernel's blocks (Even.lean, Odd.lean) and the reference's arrays (EvenRef.lean, OddRef.lean)
   are the same projection `projS` (Math.lean) of a token, entry by entry. -/
module

public import proofs.«01_k».proof.Defs
public import proofs.«01_k».proof.Proof.Gen.Kernel3.Frame
public import proofs.«01_k».proof.Proof.Gen.Kernel4.Frame
public import proofs.«01_k».proof.Proof.In.Even
public import proofs.«01_k».proof.Proof.In.EvenRef
public import proofs.«01_k».proof.Proof.In.Odd
public import proofs.«01_k».proof.Proof.In.OddRef
public import Idealize.ShloMosaic.Adequacy
public import Idealize.ShloMosaic.Init
public import Idealize.ShloMosaic.Lib.Quiescent

@[expose] public section

set_option maxRecDepth 16384

noncomputable section

namespace Cert.In

open Idealize.ShloMosaic Idealize.SL.Sem

theorem quiescent_Reference3Ideal : Cert.quiescent_Reference3Ideal := fun m ρ _ =>
  (θ_run Cert.Reference3Ideal.defs _ _).mono (fun r h => ⟨fun c => ⟨(h c).2.2.1, (h c).2.2.2⟩, sem_eq_zero_of_no_sems (by decide) r.2⟩)
    (Cert.Reference3Ideal.Value.run (F := Ideal) m ρ)

theorem algebraic_Kernel3Ideal_Reference3Ideal : Cert.algebraic_Kernel3Ideal_Reference3Ideal := by
  intro m ρ m' ρ' _ hagree
  refine ⟨fun c => Even.kA m c, fun c => Even.kB m c, ?_, ?_⟩
  · exact (θ_run Cert.Kernel3Ideal.defs _ _).mono (fun _ h c => ⟨(h c).1.trans (Even.finalA m c), (h c).2.1.trans (Even.finalB m c), (h c).2.2⟩)
      (Cert.Kernel3Ideal.Value.run_blocks (F := Ideal) m ρ)
  · refine (θ_run Cert.Reference3Ideal.defs _ _).mono (fun _ h c => ⟨?_, ?_, (h c).2.2⟩) (Cert.Reference3Ideal.Value.run (F := Ideal) m' ρ')
    · refine (h c).1.trans ?_
      show EvenRef.refA
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1)) = Even.kA m c
      rw [(hagree c).1, (hagree c).2]
      funext i
      obtain ⟨R, j, rfl⟩ : ∃ R j, i = ix2 (n0 := 32768) (n1 := 1536) R j := ⟨i 0, i 1, by funext a; match a with | 0 => rfl | 1 => rfl⟩
      exact EvenRef.refA_at _ _ R j
    · refine (h c).2.1.trans ?_
      show EvenRef.refB
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1)) = Even.kB m c
      rw [(hagree c).1, (hagree c).2]
      funext i
      obtain ⟨R, j, rfl⟩ : ∃ R j, i = ix2 (n0 := 32768) (n1 := 2304) R j := ⟨i 0, i 1, by funext a; match a with | 0 => rfl | 1 => rfl⟩
      exact EvenRef.refB_at _ _ R j

theorem quiescent_Reference4Ideal : Cert.quiescent_Reference4Ideal := fun m ρ _ =>
  (θ_run Cert.Reference4Ideal.defs _ _).mono (fun r h => ⟨fun c => ⟨(h c).2.2.1, (h c).2.2.2⟩, sem_eq_zero_of_no_sems (by decide) r.2⟩)
    (Cert.Reference4Ideal.Value.run (F := Ideal) m ρ)

theorem algebraic_Kernel4Ideal_Reference4Ideal : Cert.algebraic_Kernel4Ideal_Reference4Ideal := by
  intro m ρ m' ρ' _ hagree
  refine ⟨fun c => Odd.kA m c, fun c => Odd.kB m c, ?_, ?_⟩
  · exact (θ_run Cert.Kernel4Ideal.defs _ _).mono (fun _ h c => ⟨(h c).1.trans (Odd.finalA m c), (h c).2.1.trans (Odd.finalB m c), (h c).2.2⟩)
      (Cert.Kernel4Ideal.Value.run_blocks (F := Ideal) m ρ)
  · refine (θ_run Cert.Reference4Ideal.defs _ _).mono (fun _ h c => ⟨?_, ?_, (h c).2.2⟩) (Cert.Reference4Ideal.Value.run (F := Ideal) m' ρ')
    · refine (h c).1.trans ?_
      show OddRef.refA
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1)) = Odd.kA m c
      rw [(hagree c).1, (hagree c).2]
      funext i
      obtain ⟨R, j, rfl⟩ : ∃ R j, i = ix2 (n0 := 32768) (n1 := 1536) R j := ⟨i 0, i 1, by funext a; match a with | 0 => rfl | 1 => rfl⟩
      exact OddRef.refA_at _ _ R j
    · refine (h c).2.1.trans ?_
      show OddRef.refB
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1)) = Odd.kB m c
      rw [(hagree c).1, (hagree c).2]
      funext i
      obtain ⟨R, j, rfl⟩ : ∃ R j, i = ix2 (n0 := 32768) (n1 := 1280) R j := ⟨i 0, i 1, by funext a; match a with | 0 => rfl | 1 => rfl⟩
      exact OddRef.refB_at _ _ R j

end Cert.In

end
-- ==== Proof.Cmp.Math.lean ====
/- The compressed attention as numbers: powers of two of scaled scores against powers of `e` of the scores, and the head written once. -/
module

public import Idealize.ShloMosaic.Lib.Pointwise
public import Idealize.ShloMosaic.Lib.Tactic.WordOmega

@[expose] public section

set_option maxRecDepth 16384

noncomputable section

namespace Cert.Cmp

open Idealize.ShloMosaic Idealize.ShloMosaic.TcCoe Idealize.SL.Sem

/-- The factor `1 / log 2` that turns powers of `e` into powers of two. -/
abbrev L : EReal := ((Real.log 2)⁻¹ : ℝ)

theorem log2_pos : 0 < Real.log 2 := Real.log_pos (by norm_num)

theorem L_pos : 0 < L := EReal.coe_pos.mpr (inv_pos.mpr log2_pos)

theorem L_ne_top : L ≠ ⊤ := EReal.coe_ne_top _

theorem bot_mul_L : (⊥ : EReal) * L = ⊥ := EReal.bot_mul_of_pos L_pos

theorem top_mul_L : (⊤ : EReal) * L = ⊤ := EReal.top_mul_of_pos L_pos

/-- A power of two of a scaled difference is the power of `e` of the difference, where the bound is taken as zero once it is minus infinity
    (then the score is minus infinity as well). -/
theorem exp2_scaled (s M : EReal) (h : M = ⊥ → s = ⊥) :
    FloatOps.exp2 (F := Ideal) (φ := .f32) (s * L - M * L) = Ideal.exp (s - if ⊥ < M then M else 0) := by
  show Ideal.exp2 _ = _
  induction M with
  | bot => rw [h rfl]; simp [bot_mul_L, Ideal.exp2, Ideal.exp]; rfl
  | top =>
    rw [top_mul_L]; simp [Ideal.exp2, Ideal.exp]; rfl
  | coe M =>
    have hM : (⊥ : EReal) < (M : EReal) := EReal.bot_lt_coe M
    rw [if_pos hM]
    induction s with
    | bot => rw [bot_mul_L]; simp [Ideal.exp2, Ideal.exp]; rfl
    | top =>
      rw [top_mul_L, ← EReal.coe_mul, EReal.top_sub_coe, EReal.top_sub_coe]; rfl
    | coe s =>
      rw [← EReal.coe_mul, ← EReal.coe_mul, ← EReal.coe_sub, ← EReal.coe_sub]
      show ((Real.rpow 2 _ : ℝ) : EReal) = ((Real.exp _ : ℝ) : EReal)
      congr 1
      show (2 : ℝ) ^ (_ : ℝ) = _
      rw [Real.rpow_def_of_pos (by norm_num)]
      congr 1
      have := log2_pos.ne'
      field_simp

/-- The largest of 256 scaled entries is the largest entry, scaled. -/
theorem fold_scaled (s : Fin 256 → EReal) :
    Finset.fold max (⊥ : EReal) (fun x => s x * L) Finset.univ = Finset.fold max (⊥ : EReal) s Finset.univ * L := by
  have hm : Monotone (fun x : EReal => x * L) := fun a b h => mul_le_mul_of_nonneg_right h L_pos.le
  have key : ∀ F : Finset (Fin 256), Finset.fold max (⊥ : EReal) (fun x => s x * L) F = Finset.fold max (⊥ : EReal) s F * L := by
    intro F
    induction F using Finset.induction_on with
    | empty => simp [bot_mul_L]
    | insert a F ha ih => rw [Finset.fold_insert ha, Finset.fold_insert ha, ih]; exact (hm.map_max (a := s a)).symm
  exact key _

/-- Where the largest entry is minus infinity, every entry is. -/
theorem fold_bot (s : Fin 256 → EReal) (j : Fin 256) (h : Finset.fold max (⊥ : EReal) s Finset.univ = ⊥) : s j = ⊥ := by
  have : s j ≤ Finset.fold max (⊥ : EReal) s Finset.univ := (Finset.le_fold_max _).mpr (.inr ⟨j, Finset.mem_univ j, le_rfl⟩)
  exact le_bot_iff.mp (h ▸ this)

/-- The weights of 256 scores with powers of two, the largest score bounded below by `b`. -/
def wgt2 (b : EReal) (s : Fin 256 → EReal) (j : Fin 256) : EReal :=
  Ideal.div (FloatOps.exp2 (F := Ideal) (φ := .f32) (s j - max (Finset.fold max ⊥ s Finset.univ) b))
    (if 0 < ∑ x, FloatOps.exp2 (F := Ideal) (φ := .f32) (s x - max (Finset.fold max ⊥ s Finset.univ) b)
      then ∑ x, FloatOps.exp2 (F := Ideal) (φ := .f32) (s x - max (Finset.fold max ⊥ s Finset.univ) b) else 1)

/-- The bound that the exponents are taken from: the largest score, or zero where every score is minus infinity. -/
def top0 (s : Fin 256 → EReal) : EReal :=
  if ⊥ < Finset.fold max (⊥ : EReal) s Finset.univ then Finset.fold max (⊥ : EReal) s Finset.univ else 0

/-- The weights of 256 scores with powers of `e`: a softmax that is zero where every score is minus infinity. -/
def wgt (s : Fin 256 → EReal) (j : Fin 256) : EReal :=
  Ideal.div (Ideal.exp (s j - top0 s))
    (if 0 < ∑ x, Ideal.exp (s x - top0 s) then ∑ x, Ideal.exp (s x - top0 s) else 1)

theorem wgt2_scaled (s : Fin 256 → EReal) (j : Fin 256) : wgt2 ⊥ (fun x => s x * L) j = wgt s j := by
  have e : ∀ x, FloatOps.exp2 (F := Ideal) (φ := .f32)
      (s x * L - max (Finset.fold max ⊥ (fun x => s x * L) Finset.univ) ⊥) = Ideal.exp (s x - top0 s) := by
    intro x
    rw [max_bot_right, fold_scaled]
    exact exp2_scaled _ _ (fold_bot s x)
  unfold wgt2 wgt
  simp only [e]

/-- The output of one query and one lane: the weighted sum of the values. -/
def attn (s v : Fin 256 → EReal) : EReal := ∑ j, wgt s j * v j

/-- A sum over 128 lanes of which the first half is kept. -/
theorem sum_lo (f : Fin 128 → EReal) :
    (∑ x : Fin 128, Scalar.select (IntOp.cmpi CmpIPredicate.slt (BitVec.ofNat 32 x.val) 64#32) (f x) 0) =
      ∑ d : Fin 64, f ⟨d.val, by omega⟩ := by
  rw [show (∑ x : Fin 128, Scalar.select (IntOp.cmpi CmpIPredicate.slt (BitVec.ofNat 32 x.val) 64#32) (f x) 0) = _ from
    Fin.sum_univ_add (a := 64) (b := 64) (fun x : Fin 128 => Scalar.select (IntOp.cmpi CmpIPredicate.slt (BitVec.ofNat 32 x.val) 64#32) (f x) 0)]
  refine Eq.trans (congrArg₂ (· + ·) (Finset.sum_congr rfl fun d _ => ?_) (Finset.sum_eq_zero fun d _ => ?_)) (add_zero _)
  · rw [show IntOp.cmpi CmpIPredicate.slt (BitVec.ofNat 32 (Fin.castAdd 64 d).val) 64#32 = 1#1 by
      have := d.isLt; have e : (Fin.castAdd 64 d).val = d.val := rfl; word_cmp]
    rfl
  · rw [show IntOp.cmpi CmpIPredicate.slt (BitVec.ofNat 32 (Fin.natAdd 64 d).val) 64#32 = 0#1 by
      have := d.isLt; have e : (Fin.natAdd 64 d).val = 64 + d.val := rfl; word_cmp]
    rfl

/-- A sum over 128 lanes of which the second half is kept. -/
theorem sum_hi (f : Fin 128 → EReal) :
    (∑ x : Fin 128, Scalar.select (IntOp.cmpi CmpIPredicate.slt (BitVec.ofNat 32 x.val) 64#32) 0 (f x)) =
      ∑ d : Fin 64, f ⟨64 + d.val, by omega⟩ := by
  rw [show (∑ x : Fin 128, Scalar.select (IntOp.cmpi CmpIPredicate.slt (BitVec.ofNat 32 x.val) 64#32) 0 (f x)) = _ from
    Fin.sum_univ_add (a := 64) (b := 64) (fun x : Fin 128 => Scalar.select (IntOp.cmpi CmpIPredicate.slt (BitVec.ofNat 32 x.val) 64#32) 0 (f x))]
  refine Eq.trans (congrArg₂ (· + ·) (Finset.sum_eq_zero fun d _ => ?_) (Finset.sum_congr rfl fun d _ => ?_)) (zero_add _)
  · rw [show IntOp.cmpi CmpIPredicate.slt (BitVec.ofNat 32 (Fin.castAdd 64 d).val) 64#32 = 1#1 by
      have := d.isLt; have e : (Fin.castAdd 64 d).val = d.val := rfl; word_cmp]
    rfl
  · rw [show IntOp.cmpi CmpIPredicate.slt (BitVec.ofNat 32 (Fin.natAdd 64 d).val) 64#32 = 0#1 by
      have := d.isLt; have e : (Fin.natAdd 64 d).val = 64 + d.val := rfl; word_cmp]
    rfl

/-- Whether query `s` sees key `j`: the key's block of tokens ends at token 16·j + 31, not later than the query. -/
def visS (s j : ℕ) : BitVec 1 :=
  IntOp.cmpi CmpIPredicate.sge (IntOp.subi (BitVec.ofNat 32 s) (IntOp.subi (IntOp.addi (IntOp.muli (BitVec.ofNat 32 j) 16#32) 32#32) 1#32)) 0#32

/-- The factor an eighth. -/
abbrev eighth : EReal := Ideal.ofBits FTy.f32 1040187392#32

/-- A score: the product of query and key times an eighth, plus the bias, or minus infinity for a key that is not seen. -/
def scoreS (q k : Fin 64 → EReal) (bias : EReal) (v : BitVec 1) : EReal := Scalar.select v ((∑ d, q d * k d) * eighth + bias) ⊥

/-- The attention of batch `b`, query `s` and column `n`: head `n / 64`, of the keys and values of group `n / 256`. -/
def headS (H : Fin 8 → Fin 4096 → Fin 1536 → EReal) (KC VC : Fin 8 → Fin 256 → Fin 2 → Fin 64 → EReal) (BI : Fin 8 → Fin 4096 → Fin 256 → EReal)
    (b : Fin 8) (s : Fin 4096) (n : Fin 512) : EReal :=
  attn (fun j => scoreS (fun d => H b s ⟨n.val / 64 * 64 + d.val, by omega⟩) (fun d => KC b j ⟨n.val / 256, by omega⟩ d)
      (BI ⟨n.val / 64, by omega⟩ s j) (visS s.val j.val))
    (fun j => VC b j ⟨n.val / 256, by omega⟩ ⟨n.val % 64, by omega⟩)

/-- A finite factor on the right of every term, taken out of the sum. -/
theorem sum_factor {ι : Type*} (s : Finset ι) (f : ι → EReal) (c : EReal) (c0 : 0 ≤ c) (c1 : c ≠ ⊤) :
    ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top c0 c1]

/-- The kernel's score, of a query and a bias that carry the factor: the score, scaled. -/
theorem score_scaled (q k : Fin 64 → EReal) (bias : EReal) (v : BitVec 1) :
    (∑ d, q d * L * Ideal.ofBits FTy.bf16 15872#16 * k d) + Scalar.select v (bias * L) ⊥ = scoreS q k bias v * L := by
  have e8 : Ideal.ofBits FTy.bf16 15872#16 = ((8⁻¹ : ℝ) : EReal) := by simp [Ideal.ofBits, Ideal.ieee]; norm_num; rw [← EReal.coe_mul]; norm_num
  have e8' : eighth = ((8⁻¹ : ℝ) : EReal) := by simp [eighth, Ideal.ofBits, Ideal.ieee]; norm_num; rw [← EReal.coe_mul]; norm_num
  have h0 : (0 : EReal) ≤ ((8⁻¹ : ℝ) : EReal) := by exact_mod_cast (by norm_num : (0 : ℝ) ≤ 8⁻¹)
  have e : (∑ d, q d * L * Ideal.ofBits FTy.bf16 15872#16 * k d) = (∑ d, q d * k d) * eighth * L := by
    rw [e8, e8', ← sum_factor _ _ _ h0 (EReal.coe_ne_top _), ← sum_factor _ _ _ L_pos.le L_ne_top]
    exact Finset.sum_congr rfl fun d _ => by ac_rfl
  rw [e]
  unfold scoreS
  by_cases h : v = 1#1
  · simp only [Scalar.select, h, if_true]
    exact (EReal.right_distrib_of_nonneg_of_ne_top L_pos.le L_ne_top _ _).symm
  · simp [Scalar.select, h, bot_mul_L]

end Cert.Cmp
-- ==== Proof.Cmp.Host.lean ====
/- What the compressed attention's kernel finds in its four arrays: the queries and the biases times 1 / log 2, keys and values side by side
   twice, and minus infinity for the keys that are not seen. -/
module

public import proofs.«01_k».proof.Proof.Gen.Kernel2Ideal.Value
public import proofs.«01_k».proof.Proof.Cmp.Math
public import Idealize.ShloMosaic.Lib.Pointwise
public import Idealize.ShloMosaic.Lib.Pipeline.ValueKit
public import Idealize.ShloMosaic.Lib.Tactic.WordOmega

@[expose] public section

set_option maxRecDepth 16384

noncomputable section

namespace Cert.Cmp

open Idealize.ShloMosaic Idealize.ShloMosaic.TcCoe Idealize.SL.Sem
open Cert.Kernel2Ideal Cert.Kernel2Ideal.Gen

/-- The factor as the host computes it. -/
def facK : FVec Ideal S_ .f32 := Host.divf (constant S_ .f32 0x3F800000#32) (Host.log (constant S_ .f32 0x40000000#32))

/-- The hidden columns, the first 512 (the queries) times the factor. -/
def hbK (A : FVec Ideal S8x4096x1536 .f32) : FVec Ideal S8x4096x1536 .bf16 :=
  truncf (F := Ideal) .bf16 (mulf A (broadcastInDim S8x4096x1536 ![0, 1, 2] bcast_S1x1x1536_S8x4096x1536_0_1_2
    (broadcastInDim S1x1x1536 ![2] bcast_S1536_S1x1x1536_2
      (select (cmpi .slt (iotaInDim S1536 32 0) (broadcastInDim S1536 ![] bcast_S_S1536 (constantI S_ 32 512#32)))
        (broadcastInDim S1536 ![] bcast_S_S1536 facK)
        (broadcastInDim S1536 ![] bcast_S_S1536 (constant S_ .f32 0x3F800000#32)))))) bitsLt_bf16_f32

/-- The keys' two groups and then the values' two. -/
def kvK (K W : FVec Ideal S8x256x2x64 .f32) : FVec Ideal S8x4x256x64 .f32 :=
  concatenate S8x4x256x64 1
    [⟨S8x1x256x64, broadcastInDim S8x1x256x64 ![0, 2, 3] bcast_S8x256x64_S8x1x256x64_0_2_3 (shapeCast S8x256x64 (extractStridedSlice S8x256x1x64 ![0, 0, 0, 0] K slices_S8x256x2x64_S8x256x1x64_0_0_0_0) shapeCasts_S8x256x1x64_S8x256x64)⟩,
     ⟨S8x1x256x64, broadcastInDim S8x1x256x64 ![0, 2, 3] bcast_S8x256x64_S8x1x256x64_0_2_3 (shapeCast S8x256x64 (extractStridedSlice S8x256x1x64 ![0, 0, 1, 0] K slices_S8x256x2x64_S8x256x1x64_0_0_1_0) shapeCasts_S8x256x1x64_S8x256x64)⟩,
     ⟨S8x1x256x64, broadcastInDim S8x1x256x64 ![0, 2, 3] bcast_S8x256x64_S8x1x256x64_0_2_3 (shapeCast S8x256x64 (extractStridedSlice S8x256x1x64 ![0, 0, 0, 0] W slices_S8x256x2x64_S8x256x1x64_0_0_0_0) shapeCasts_S8x256x1x64_S8x256x64)⟩,
     ⟨S8x1x256x64, broadcastInDim S8x1x256x64 ![0, 2, 3] bcast_S8x256x64_S8x1x256x64_0_2_3 (shapeCast S8x256x64 (extractStridedSlice S8x256x1x64 ![0, 0, 1, 0] W slices_S8x256x2x64_S8x256x1x64_0_0_1_0) shapeCasts_S8x256x1x64_S8x256x64)⟩]
    concatenates_S8x1x256x64_S8x1x256x64_S8x1x256x64_S8x1x256x64_S8x4x256x64_d1

/-- The same twice along the lanes. -/
def dupK (A : FVec Ideal S8x4x256x64 .f32) : FVec Ideal S8x4x256x128 .bf16 :=
  truncf (F := Ideal) .bf16 (concatenate S8x4x256x128 3 [⟨S8x4x256x64, A⟩, ⟨S8x4x256x64, A⟩] concatenates_S8x4x256x64_S8x4x256x64_S8x4x256x128_d3) bitsLt_bf16_f32

/-- Which keys a query sees. -/
def visK : IVec S4096x256 1 :=
  cmpi .sge (subi (broadcastInDim S4096x256 ![0, 1] bcast_S4096x1_S4096x256_0_1 (broadcastInDim S4096x1 ![0] bcast_S4096_S4096x1_0 (iotaInDim S4096 32 0))) (broadcastInDim S4096x256 ![0, 1] bcast_S1x256_S4096x256_0_1 (broadcastInDim S1x256 ![1] bcast_S256_S1x256_1 (subi (addi (muli (iotaInDim S256 32 0) (broadcastInDim S256 ![] bcast_S_S256 (constantI S_ 32 16#32))) (broadcastInDim S256 ![] bcast_S_S256 (constantI S_ 32 32#32))) (broadcastInDim S256 ![] bcast_S_S256 (constantI S_ 32 1#32)))))) (broadcastInDim S4096x256 ![] bcast_S_S4096x256 (constantI S_ 32 0#32))

/-- The biases of the seen keys times the factor, minus infinity for the others. -/
def tbK (B : FVec Ideal S8x4096x256 .f32) : FVec Ideal S8x4096x256 .f32 :=
  select (broadcastInDim S8x4096x256 ![1, 2] bcast_S4096x256_S8x4096x256_1_2 visK) (mulf B (broadcastInDim S8x4096x256 ![] bcast_S_S8x4096x256 facK))
    (broadcastInDim S8x4096x256 ![] bcast_S_S8x4096x256 (constant S_ .f32 0xFF800000#32))

variable (m : (ℓ : Loc nD τ sig) → Buf (Elt Ideal) ℓ)

set_option maxHeartbeats 1600000 in
/-- What the grid finds in the queries' array. -/
theorem V_hb (c : Dev nD) : V m c main_v9 = hbK (m ((c.tc : Thread nD τ).loc main_arg0)) := by
  unfold V
  simp only [hostOps0, hostOps0_1, hostOps0_2, hostOps0_3, List.flatten_cons, List.flatten_nil, List.append_nil, List.cons_append, List.nil_append,
    StableHlo.TRef.ternary, StableHlo.TRef.unary, StableHlo.TRef.toBuf, StableHlo.TRef.ofBuf, cast_eq]
  after_results <;> rfl

set_option maxHeartbeats 1600000 in
/-- What the grid finds in the array of keys and values. -/
theorem V_kv (c : Dev nD) : V m c main_v24 = dupK (kvK (m ((c.tc : Thread nD τ).loc main_arg1)) (m ((c.tc : Thread nD τ).loc main_arg2))) := by
  unfold V
  simp only [hostOps0, hostOps0_1, hostOps0_2, hostOps0_3, List.flatten_cons, List.flatten_nil, List.append_nil, List.cons_append, List.nil_append,
    StableHlo.TRef.ternary, StableHlo.TRef.unary, StableHlo.TRef.toBuf, StableHlo.TRef.ofBuf, cast_eq]
  after_results <;> rfl

set_option maxHeartbeats 1600000 in
/-- What the grid finds in the biases' array. -/
theorem V_tb (c : Dev nD) : V m c main_v42 = tbK (m ((c.tc : Thread nD τ).loc main_arg3)) := by
  unfold V
  simp only [hostOps0, hostOps0_1, hostOps0_2, hostOps0_3, List.flatten_cons, List.flatten_nil, List.append_nil, List.cons_append, List.nil_append,
    StableHlo.TRef.ternary, StableHlo.TRef.unary, StableHlo.TRef.toBuf, StableHlo.TRef.ofBuf, cast_eq]
  after_results <;> rfl

/-- The host's factor is `1 / log 2`. -/
theorem fac_eq : Ideal.div (Ideal.ofBits FTy.f32 0x3F800000#32) (Ideal.log (Ideal.ofBits FTy.f32 0x40000000#32)) = L := by
  have e1 : Ideal.ofBits FTy.f32 0x3F800000#32 = ((1 : ℝ) : EReal) := by simp [Ideal.ofBits, Ideal.ieee]; norm_num; rw [← EReal.coe_mul]; norm_num
  have e2 : Ideal.ofBits FTy.f32 0x40000000#32 = ((2 : ℝ) : EReal) := by simp [Ideal.ofBits, Ideal.ieee]; norm_num; rw [← EReal.coe_mul]; norm_num
  have e3 : Ideal.log ((2 : ℝ) : EReal) = ((Real.log 2 : ℝ) : EReal) := by
    show (if (2 : ℝ) ≤ 0 then (⊥ : EReal) else ((Real.log 2 : ℝ) : EReal)) = _
    rw [if_neg (by norm_num)]
  rw [e1, e2, e3]
  have h : ((Real.log 2 : ℝ) : EReal) ≠ 0 := by exact_mod_cast log2_pos.ne'
  unfold Ideal.div
  simp [h]
  exact (EReal.coe_inv _).symm

theorem fac_at (i : S_.Idx) : facK i = L := by
  refine Eq.trans ?_ fac_eq
  pointwise [facK]

theorem hb_of (f : FVec Ideal S_ .f32) (hf : ∀ i, f i = L) (A : FVec Ideal S8x4096x1536 .f32) (b : Fin 8) (s : Fin 4096) (n : Fin 1536) (hn : n.val < 512) :
    (truncf (F := Ideal) .bf16 (mulf A (broadcastInDim S8x4096x1536 ![0, 1, 2] bcast_S1x1x1536_S8x4096x1536_0_1_2
    (broadcastInDim S1x1x1536 ![2] bcast_S1536_S1x1x1536_2
      (select (cmpi .slt (iotaInDim S1536 32 0) (broadcastInDim S1536 ![] bcast_S_S1536 (constantI S_ 32 512#32)))
        (broadcastInDim S1536 ![] bcast_S_S1536 f)
        (broadcastInDim S1536 ![] bcast_S_S1536 (constant S_ .f32 0x3F800000#32)))))) bitsLt_bf16_f32 : FVec Ideal S8x4096x1536 .bf16) (ix3 b s n) = A (ix3 b s n) * L := by
  pointwise
  rw [show IntOp.cmpi CmpIPredicate.slt (BitVec.ofNat 32 n.val) 512#32 = 1#1 by have h1 : n.val < 1536 := n.isLt; word_cmp]
  simp [Scalar.select, hf]

theorem hb_at (A : FVec Ideal S8x4096x1536 .f32) (b : Fin 8) (s : Fin 4096) (n : Fin 1536) (hn : n.val < 512) :
    hbK A (ix3 b s n) = A (ix3 b s n) * L := hb_of facK fac_at A b s n hn

theorem dup_at (A : FVec Ideal S8x4x256x64 .f32) (b : Fin 8) (g : Fin 4) (j : Fin 256) (x : Fin 128) :
    dupK A (ix4 b g j x) = A (ix4 b g j ⟨x.val % 64, by omega⟩) := by
  have hx : x.val < 128 := x.isLt
  pointwise [dupK]
  by_cases h : x.val < 64
  · rw [dif_pos h]
    exact congrArg (fun y => A (ix4 b g j y)) (Fin.ext (by show x.val = x.val % 64; omega))
  · rw [dif_neg h]
    exact congrArg (fun y => A (ix4 b g j y)) (Fin.ext (by show x.val - 64 = x.val % 64; omega))

theorem kv_key (K W : FVec Ideal S8x256x2x64 .f32) (b : Fin 8) (g : Fin 4) (g' : Fin 2) (hg : g.val = g'.val) (j : Fin 256) (d : Fin 64) :
    kvK K W (ix4 b g j d) = K (ix4 b j g' d) := by
  match g', g, hg with
  | 0, 0, _ => pointwise [kvK]
  | 1, 1, _ => pointwise [kvK]

theorem kv_val (K W : FVec Ideal S8x256x2x64 .f32) (b : Fin 8) (g : Fin 4) (g' : Fin 2) (hg : g.val = 2 + g'.val) (j : Fin 256) (d : Fin 64) :
    kvK K W (ix4 b g j d) = W (ix4 b j g' d) := by
  match g', g, hg with
  | 0, 2, _ => pointwise [kvK]
  | 1, 3, _ => pointwise [kvK]

theorem visK_at (s : Fin 4096) (j : Fin 256) : visK (ix2 s j) = visS s.val j.val := by
  pointwise [visK, visS]

theorem tb_of (f : FVec Ideal S_ .f32) (hf : ∀ i, f i = L) (V : IVec S4096x256 1) (B : FVec Ideal S8x4096x256 .f32) (h : Fin 8) (s : Fin 4096) (j : Fin 256) :
    (select (broadcastInDim S8x4096x256 ![1, 2] bcast_S4096x256_S8x4096x256_1_2 V) (mulf B (broadcastInDim S8x4096x256 ![] bcast_S_S8x4096x256 f))
    (broadcastInDim S8x4096x256 ![] bcast_S_S8x4096x256 (constant S_ .f32 0xFF800000#32)) : FVec Ideal S8x4096x256 .f32) (ix3 h s j) =
      Scalar.select (V (ix2 s j)) (B (ix3 h s j) * L) ⊥ := by
  pointwise
  rw [hf, show Ideal.ofBits FTy.f32 4286578688#32 = ⊥ by simp [Ideal.ofBits, Ideal.ieee]]

theorem tb_at (B : FVec Ideal S8x4096x256 .f32) (h : Fin 8) (s : Fin 4096) (j : Fin 256) :
    tbK B (ix3 h s j) = Scalar.select (visS s.val j.val) (B (ix3 h s j) * L) ⊥ :=
  (tb_of facK fac_at visK B h s j).trans (by rw [visK_at])

theorem mask_bot : (Named.named (F := Ideal) κ "mask" (φ := .f32) 4048155338#32 : EReal) = ⊥ := rfl

end Cert.Cmp
-- ==== Proof.Cmp.Tile.lean ====
/- The compressed attention's body: what a grid point stores for its 512 queries and the four heads of its group. -/
module

public import proofs.«01_k».proof.Proof.Gen.Kernel2Ideal.Value
public import proofs.«01_k».proof.Proof.Cmp.Math
public import Idealize.ShloMosaic.Lib.Pointwise
public import Idealize.ShloMosaic.Lib.Pipeline.ValueKit
public import Idealize.ShloMosaic.Lib.VecWindow

@[expose] public section

set_option maxRecDepth 16384

noncomputable section

namespace Cert.Cmp

open Idealize.ShloMosaic Idealize.ShloMosaic.TcCoe Idealize.SL.Sem
open Idealize.ShloMosaic.Pipeline (Dat)
open Cert.Kernel2Ideal Cert.Kernel2Ideal.Gen

/-- The lower bound of the largest score: the constant named `mask`. -/
abbrev maskK : EReal := Named.named (F := Ideal) κ "mask" (φ := .f32) 4048155338#32

/-- The score of query row `r` and key `j` for head `h` of the group: the query's 64 lanes of the head, times an eighth, against the key's
    half of 64 lanes, plus the bias block. -/
def scr (X0 : Vec Ideal S1x512x256 .bf16) (X1 : Vec Ideal S1x1x256x128 .bf16) (X3 : Vec Ideal S4x512x256 .f32)
    (h : Fin 4) (r : Fin 512) (j : Fin 256) : EReal :=
  (∑ d : Fin 64, X0 (ix3 0 r ⟨64 * h.val + d.val, by omega⟩) * Ideal.ofBits FTy.bf16 15872#16 *
    X1 (ix4 0 0 j ⟨64 * (h.val % 2) + d.val, by omega⟩)) + X3 (ix3 h r j)

/-- What the point stores at query row `r` and lane `l` (the head is `l / 64`). -/
def outT (X0 : Vec Ideal S1x512x256 .bf16) (X1 X2 : Vec Ideal S1x1x256x128 .bf16) (X3 : Vec Ideal S4x512x256 .f32)
    (r : Fin 512) (l : Fin 256) : EReal :=
  ∑ j, wgt2 maskK (scr X0 X1 X3 ⟨l.val / 64, by omega⟩ r) j * X2 (ix4 0 0 j ⟨l.val % 128, by omega⟩)

/-- The weights as the body writes them out. -/
theorem wgt2_body (s : Fin 256 → EReal) (j : Fin 256) :
    Ideal.div (FloatOps.exp2 (F := Ideal) (φ := .f32) (s j - max (Finset.fold max (Ideal.ofBits FTy.f32 4286578688#32) s Finset.univ) maskK))
      (if 0 < ∑ x, FloatOps.exp2 (F := Ideal) (φ := .f32) (s x - max (Finset.fold max (Ideal.ofBits FTy.f32 4286578688#32) s Finset.univ) maskK)
        then ∑ x, FloatOps.exp2 (F := Ideal) (φ := .f32) (s x - max (Finset.fold max (Ideal.ofBits FTy.f32 4286578688#32) s Finset.univ) maskK)
        else 1) = wgt2 maskK s j := by
  rw [show Ideal.ofBits FTy.f32 4286578688#32 = ⊥ by simp [Ideal.ofBits, Ideal.ieee]]
  rfl

theorem sq (i : S256x256.Idx) : ∃ r j : Fin 256, i = ix2 r j := ⟨i 0, i 1, by funext a; match a with | 0 => rfl | 1 => rfl⟩

theorem pc (x : S1x256x128.Idx) : ∃ (a : Fin 256) (b : Fin 128), x = ix3 0 a b :=
  ⟨x 1, x 2, by funext a; match a with | 0 => exact Fin.ext (by have := (x 0).isLt; simp at this ⊢) | 1 => rfl | 2 => rfl⟩

/-- The weights of a score array and a bias array, row by row. -/
def probV (R : FVec Ideal S256x256 .f32) (T : Vec Ideal S1x256x256 .f32) : FVec Ideal S256x256 .f32 := fun i =>
  wgt2 maskK (fun x => R (ix2 (i 0) x) + T (ix3 0 (i 0) x)) (i 1)

theorem probV_at (R : FVec Ideal S256x256 .f32) (T : Vec Ideal S1x256x256 .f32) (r j : Fin 256) :
    probV R T (ix2 r j) = wgt2 maskK (fun x => R (ix2 r x) + T (ix3 0 r x)) j := rfl

theorem pay21_eq (R : FVec Ideal S256x256 .f32) (T : Vec Ideal S1x256x256 .f32) : k0_pay21 R T = probV R T := by
  funext i; obtain ⟨r, j, rfl⟩ := sq i
  rw [probV_at]; pointwise [k0_pay21]
  exact wgt2_body (fun x => R (ix2 r x) + T (ix3 0 r x)) j

theorem pay25_eq (R : FVec Ideal S256x256 .f32) (T : Vec Ideal S1x256x256 .f32) :
    k0_pay25 (k0_pay22 R T) (k0_pay23 R T) (k0_pay24 (F := Ideal)) = probV R T := by
  funext i; obtain ⟨r, j, rfl⟩ := sq i
  rw [probV_at]; pointwise [k0_pay25, k0_pay22, k0_pay23, k0_pay24]
  exact wgt2_body (fun x => R (ix2 r x) + T (ix3 0 r x)) j

theorem pay26_eq (R : FVec Ideal S256x256 .f32) (T : Vec Ideal S1x256x256 .f32) : k0_pay26 R T = probV R T := by
  funext i; obtain ⟨r, j, rfl⟩ := sq i
  rw [probV_at]; pointwise [k0_pay26]
  exact wgt2_body (fun x => R (ix2 r x) + T (ix3 0 r x)) j

theorem pay29_eq (R : FVec Ideal S256x256 .f32) (T : Vec Ideal S1x256x256 .f32) :
    k0_pay29 (k0_pay27 R T) (k0_pay28 R T) (FloatOps.ofBits (F := Ideal) .f32 0#32) = probV R T := by
  funext i; obtain ⟨r, j, rfl⟩ := sq i
  rw [probV_at]; pointwise [k0_pay29, k0_pay27, k0_pay28]
  exact wgt2_body (fun x => R (ix2 r x) + T (ix3 0 r x)) j

theorem pay30_eq (R : FVec Ideal S256x256 .f32) (T : Vec Ideal S1x256x256 .f32) : k0_pay30 R T = probV R T := by
  funext i; obtain ⟨r, j, rfl⟩ := sq i
  rw [probV_at]; pointwise [k0_pay30]
  exact wgt2_body (fun x => R (ix2 r x) + T (ix3 0 r x)) j

theorem pay31_eq (R : FVec Ideal S256x256 .f32) (T : Vec Ideal S1x256x256 .f32) : k0_pay31 R T = probV R T := by
  funext i; obtain ⟨r, j, rfl⟩ := sq i
  rw [probV_at]; pointwise [k0_pay31]
  exact wgt2_body (fun x => R (ix2 r x) + T (ix3 0 r x)) j

theorem pay32_eq (R : FVec Ideal S256x256 .f32) (T : Vec Ideal S1x256x256 .f32) : k0_pay32 R T = probV R T := by
  funext i; obtain ⟨r, j, rfl⟩ := sq i
  rw [probV_at]; pointwise [k0_pay32]
  exact wgt2_body (fun x => R (ix2 r x) + T (ix3 0 r x)) j

theorem pay33_eq (R : FVec Ideal S256x256 .f32) (T : Vec Ideal S1x256x256 .f32) : k0_pay33 R T = probV R T := by
  funext i; obtain ⟨r, j, rfl⟩ := sq i
  rw [probV_at]; pointwise [k0_pay33]
  exact wgt2_body (fun x => R (ix2 r x) + T (ix3 0 r x)) j

/-- What is stored, read off the body's own expression. -/
theorem body_outT (X0 : Vec Ideal S1x512x256 .bf16) (X1 X2 : Vec Ideal S1x1x256x128 .bf16) (X3 : Vec Ideal S4x512x256 .f32)
    (r r' : Fin 512) (l : Fin 256) (h : Fin 4) (f : Fin 64 → Fin 256) (g : Fin 64 → Fin 128) (v : Fin 128)
    (hr : r'.val = r.val) (hh : l.val / 64 = h.val) (hf : ∀ d, (f d).val = 64 * h.val + d.val) (hg : ∀ d, (g d).val = 64 * (h.val % 2) + d.val)
    (hv : v.val = l.val % 128) :
    (∑ j, wgt2 maskK (fun x => (∑ d, X0 (ix3 0 r' (f d)) * Ideal.ofBits FTy.bf16 15872#16 * X1 (ix4 0 0 x (g d))) + X3 (ix3 h r' x)) j *
      X2 (ix4 0 0 j v)) = outT X0 X1 X2 X3 r l := by
  obtain rfl : r' = r := Fin.ext hr
  unfold outT
  rw [show (⟨l.val / 64, by omega⟩ : Fin 4) = h from Fin.ext hh, show (⟨l.val % 128, by omega⟩ : Fin 128) = v from Fin.ext hv.symm]
  refine Finset.sum_congr rfl fun j _ => congrArg (fun s => wgt2 maskK s j * X2 (ix4 0 0 j v)) (funext fun x => ?_)
  unfold scr
  refine congrArg (· + _) (Finset.sum_congr rfl fun d _ => ?_)
  rw [show f d = ⟨64 * h.val + d.val, by omega⟩ from Fin.ext (hf d), show g d = ⟨64 * (h.val % 2) + d.val, by omega⟩ from Fin.ext (hg d)]

theorem add_eq {a b c d : EReal} (h : a = b) (h' : c = d) : a + c = b + d := by rw [h, h']

/-- The choice by lane, as a choice of propositions. -/
theorem lane_if (n : ℕ) (hn : n < 128) (a b : EReal) :
    Scalar.select (IntOp.cmpi CmpIPredicate.slt (BitVec.ofNat 32 n) 64#32) a b = if n < 64 then a else b := by
  rw [show IntOp.cmpi CmpIPredicate.slt (BitVec.ofNat 32 n) 64#32 = BitVec.ofBool (decide (n < 64)) by word_cmp]
  by_cases h : n < 64 <;> simp [h, Scalar.select]

set_option maxHeartbeats 800000 in
/-- The four stores of a point tile its block, each with the two heads of a pair for 256 queries. -/
theorem out4 (c : Dev nD) (t : Fin cfg0.N) (X0 : Vec Ideal S1x512x256 .bf16) (X1 X2 : Vec Ideal S1x1x256x128 .bf16)
    (X3 : Vec Ideal S4x512x256 .f32) (r : Fin 512) (l : Fin 256) :
    out0_A_4 c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) scM0_2 (Memref.isWhole_whole _)
      X0 X1 X2 X3 (ix3 0 r l) = outT X0 X1 X2 X3 r l := by
  frame_open
  rw [View.read_writes_junk_eq_canon]
  simp only [View.readAt_eq_ld, Memref.IsWhole.read_unread]
  canon_tiles x h
  case piece0 =>
    simp only [pay21_eq, pay25_eq, pay26_eq, pay29_eq, pay30_eq, pay31_eq, pay32_eq, pay33_eq]
    obtain ⟨a, b, rfl⟩ := pc x
    simp at h1 h2
    pointwise [k0_pay19, k0_pay17, k0_pay18, k0_pay20]
    rw [lane_if _ b.isLt]
    split
    · simp only [probV_at]
      pointwise
      simp only [sum_lo]
      refine Eq.trans (Finset.sum_congr rfl fun j _ => ?_) (body_outT X0 X1 X2 X3 r ⟨256 + a.val, by omega⟩ l 2 (fun d => ⟨128 + d.val, by omega⟩)
        (fun d => ⟨d.val, by omega⟩) b (by show 256 + a.val = r.val; omega) (by show _ = 2; omega)
        (fun d => by show 128 + d.val = 64 * 2 + d.val; omega) (fun d => by show d.val = 64 * 0 + d.val; omega) (by omega))
      refine congrArg (fun s => wgt2 maskK s j * _) (funext fun x => ?_)
      refine add_eq (Finset.sum_congr rfl fun d _ => ?_) ?_ <;> with_reducible rfl
    · simp only [probV_at]
      pointwise
      simp only [sum_hi]
      refine Eq.trans (Finset.sum_congr rfl fun j _ => ?_) (body_outT X0 X1 X2 X3 r ⟨256 + a.val, by omega⟩ l 3 (fun d => ⟨128 + (64 + d.val), by omega⟩)
        (fun d => ⟨64 + d.val, by omega⟩) b (by show 256 + a.val = r.val; omega) (by show _ = 3; omega)
        (fun d => by show 128 + (64 + d.val) = 64 * 3 + d.val; omega) (fun d => by show 64 + d.val = 64 * 1 + d.val; omega) (by omega))
      refine congrArg (fun s => wgt2 maskK s j * _) (funext fun x => ?_)
      refine add_eq (Finset.sum_congr rfl fun d _ => ?_) ?_ <;> with_reducible rfl
  case piece1 =>
    simp only [pay21_eq, pay25_eq, pay26_eq, pay29_eq, pay30_eq, pay31_eq, pay32_eq, pay33_eq]
    obtain ⟨a, b, rfl⟩ := pc x
    simp at h1 h2
    pointwise [k0_pay15, k0_pay16, k0_pay14]
    rw [lane_if _ b.isLt]
    split
    · simp only [probV_at]
      pointwise
      simp only [sum_lo]
      refine Eq.trans (Finset.sum_congr rfl fun j _ => ?_) (body_outT X0 X1 X2 X3 r ⟨256 + a.val, by omega⟩ l 0 (fun d => ⟨d.val, by omega⟩)
        (fun d => ⟨d.val, by omega⟩) b (by show 256 + a.val = r.val; omega) (by show _ = 0; omega)
        (fun d => by show d.val = 64 * 0 + d.val; omega) (fun d => by show d.val = 64 * 0 + d.val; omega) (by omega))
      refine congrArg (fun s => wgt2 maskK s j * _) (funext fun x => ?_)
      refine add_eq (Finset.sum_congr rfl fun d _ => ?_) ?_ <;> with_reducible rfl
    · simp only [probV_at]
      pointwise
      simp only [sum_hi]
      refine Eq.trans (Finset.sum_congr rfl fun j _ => ?_) (body_outT X0 X1 X2 X3 r ⟨256 + a.val, by omega⟩ l 1 (fun d => ⟨64 + d.val, by omega⟩)
        (fun d => ⟨64 + d.val, by omega⟩) b (by show 256 + a.val = r.val; omega) (by show _ = 1; omega)
        (fun d => by show 64 + d.val = 64 * 1 + d.val; omega) (fun d => by show 64 + d.val = 64 * 1 + d.val; omega) (by omega))
      refine congrArg (fun s => wgt2 maskK s j * _) (funext fun x => ?_)
      refine add_eq (Finset.sum_congr rfl fun d _ => ?_) ?_ <;> with_reducible rfl
  case piece2 =>
    simp only [pay21_eq, pay25_eq, pay26_eq, pay29_eq, pay30_eq, pay31_eq, pay32_eq, pay33_eq]
    obtain ⟨a, b, rfl⟩ := pc x
    simp at h1 h2
    pointwise [k0_pay36]
    rw [lane_if _ b.isLt]
    split
    · simp only [probV_at]
      pointwise
      simp only [sum_lo]
      refine Eq.trans (Finset.sum_congr rfl fun j _ => ?_) (body_outT X0 X1 X2 X3 r ⟨a.val, by omega⟩ l 2 (fun d => ⟨128 + d.val, by omega⟩)
        (fun d => ⟨d.val, by omega⟩) b (by show a.val = r.val; omega) (by show _ = 2; omega)
        (fun d => by show 128 + d.val = 64 * 2 + d.val; omega) (fun d => by show d.val = 64 * 0 + d.val; omega) (by omega))
      refine congrArg (fun s => wgt2 maskK s j * _) (funext fun x => ?_)
      refine add_eq (Finset.sum_congr rfl fun d _ => ?_) ?_ <;> with_reducible rfl
    · simp only [probV_at]
      pointwise
      simp only [sum_hi]
      refine Eq.trans (Finset.sum_congr rfl fun j _ => ?_) (body_outT X0 X1 X2 X3 r ⟨a.val, by omega⟩ l 3 (fun d => ⟨128 + (64 + d.val), by omega⟩)
        (fun d => ⟨64 + d.val, by omega⟩) b (by show a.val = r.val; omega) (by show _ = 3; omega)
        (fun d => by show 128 + (64 + d.val) = 64 * 3 + d.val; omega) (fun d => by show 64 + d.val = 64 * 1 + d.val; omega) (by omega))
      refine congrArg (fun s => wgt2 maskK s j * _) (funext fun x => ?_)
      refine add_eq (Finset.sum_congr rfl fun d _ => ?_) ?_ <;> with_reducible rfl
  case piece3 =>
    simp only [pay21_eq, pay25_eq, pay26_eq, pay29_eq, pay30_eq, pay31_eq, pay32_eq, pay33_eq]
    obtain ⟨a, b, rfl⟩ := pc x
    simp at h1 h2
    pointwise [k0_pay34, k0_pay35]
    rw [lane_if _ b.isLt]
    split
    · simp only [probV_at]
      pointwise
      simp only [sum_lo]
      refine Eq.trans (Finset.sum_congr rfl fun j _ => ?_) (body_outT X0 X1 X2 X3 r ⟨a.val, by omega⟩ l 0 (fun d => ⟨d.val, by omega⟩)
        (fun d => ⟨d.val, by omega⟩) b (by show a.val = r.val; omega) (by show _ = 0; omega)
        (fun d => by show d.val = 64 * 0 + d.val; omega) (fun d => by show d.val = 64 * 0 + d.val; omega) (by omega))
      refine congrArg (fun s => wgt2 maskK s j * _) (funext fun x => ?_)
      refine add_eq (Finset.sum_congr rfl fun d _ => ?_) ?_ <;> with_reducible rfl
    · simp only [probV_at]
      pointwise
      simp only [sum_hi]
      refine Eq.trans (Finset.sum_congr rfl fun j _ => ?_) (body_outT X0 X1 X2 X3 r ⟨a.val, by omega⟩ l 1 (fun d => ⟨64 + d.val, by omega⟩)
        (fun d => ⟨64 + d.val, by omega⟩) b (by show a.val = r.val; omega) (by show _ = 1; omega)
        (fun d => by show 64 + d.val = 64 * 1 + d.val; omega) (fun d => by show 64 + d.val = 64 * 1 + d.val; omega) (by omega))
      refine congrArg (fun s => wgt2 maskK s j * _) (funext fun x => ?_)
      refine add_eq (Finset.sum_congr rfl fun d _ => ?_) ?_ <;> with_reducible rfl

end Cert.Cmp
-- ==== Proof.Cmp.Reads.lean ====
/- The compressed attention's kernel: what its result array holds. A grid point takes one batch entry, 512 queries and the four heads of one
   group (`x_at`, `k_at`, `v_at`, `t_at`), what it stores is those heads' attention (`out_point`), and the 128 blocks fill the array (`final`). -/
module

public import proofs.«01_k».proof.Proof.Gen.Kernel2Ideal.Value
public import proofs.«01_k».proof.Proof.Cmp.Host
public import proofs.«01_k».proof.Proof.Cmp.Tile
public import Idealize.ShloMosaic.Lib.Pointwise
public import Idealize.ShloMosaic.Lib.Pipeline.ValueKit
public import Idealize.ShloMosaic.Lib.VecWindow

@[expose] public section

set_option maxRecDepth 16384

noncomputable section

namespace Cert.Cmp

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Which block of each array a grid point takes or fills: the batch entry is the fastest index, the group the slowest. -/
theorem idx : ∀ t : Fin cfg0.N,
    (win0_0.index t 0 = t.val % 8 ∧ win0_0.index t 1 = t.val / 8 % 8 ∧ win0_0.index t 2 = t.val / 64)
    ∧ (win0_1.index t 0 = t.val % 8 ∧ win0_1.index t 1 = t.val / 64 ∧ win0_1.index t 2 = 0 ∧ win0_1.index t 3 = 0)
    ∧ (win0_2.index t 0 = t.val % 8 ∧ win0_2.index t 1 = 2 + t.val / 64 ∧ win0_2.index t 2 = 0 ∧ win0_2.index t 3 = 0)
    ∧ (win0_3.index t 0 = t.val / 64 ∧ win0_3.index t 1 = t.val / 8 % 8 ∧ win0_3.index t 2 = 0)
    ∧ (win0_4.index t 0 = t.val % 8 ∧ win0_4.index t 1 = t.val / 8 % 8 ∧ win0_4.index t 2 = t.val / 64) :=
  (by decide +kernel : ∀ t : Fin grid0.N, _)

/-- The arguments as functions of coordinates. -/
abbrev aH (c : Dev nD) : Fin 8 → Fin 4096 → Fin 1536 → EReal := fun b s k => m ((c.tc : Thread nD τ).loc main_arg0) (ix3 b s k)
abbrev aK (c : Dev nD) : Fin 8 → Fin 256 → Fin 2 → Fin 64 → EReal := fun b j g d => m ((c.tc : Thread nD τ).loc main_arg1) (ix4 b j g d)
abbrev aV (c : Dev nD) : Fin 8 → Fin 256 → Fin 2 → Fin 64 → EReal := fun b j g d => m ((c.tc : Thread nD τ).loc main_arg2) (ix4 b j g d)
abbrev aB (c : Dev nD) : Fin 8 → Fin 4096 → Fin 256 → EReal := fun h s j => m ((c.tc : Thread nD τ).loc main_arg3) (ix3 h s j)

/-- A lane of a point's queries is the query's column times the factor. -/
theorem x_at (c : Dev nD) (t : Fin cfg0.N) (b : Fin 8) (s : Fin 4096) (n : Fin 1536) (r : Fin 512) (x : Fin 256)
    (hb : b.val = t.val % 8) (hs : s.val = t.val / 8 % 8 * 512 + r.val) (hn : n.val = t.val / 64 * 256 + x.val) :
    iblk m c 0 t (ix3 0 r x) = aH m c b s n * L := by
  have ht : t.val < 128 := t.isLt
  have hx : x.val < 256 := x.isLt
  blk_simp [iblk, idx t]
  have e : (win0_0.blk t).view.emb (ix3 0 r x) = ix3 (n0 := 8) (n1 := 4096) (n2 := 1536) b s n := by
    blk_ext [idx t, hb, hs, hn]
  refine (congrFun (V_hb m c) _).trans ((congrArg _ e).trans ?_)
  exact hb_at _ b s n (by omega)

/-- A lane of a point's keys. -/
theorem k_at (c : Dev nD) (t : Fin cfg0.N) (b : Fin 8) (g : Fin 2) (j : Fin 256) (x : Fin 128) (d : Fin 64)
    (hb : b.val = t.val % 8) (hg : g.val = t.val / 64) (hd : d.val = x.val % 64) :
    iblk m c 1 t (ix4 0 0 j x) = aK m c b j g d := by
  obtain ⟨G, hG⟩ : ∃ G : Fin 4, G.val = g.val := ⟨⟨g.val, by omega⟩, rfl⟩
  blk_simp [iblk, idx t]
  have e : (win0_1.blk t).view.emb (ix4 0 0 j x) = ix4 (n0 := 8) (n1 := 4) (n2 := 256) (n3 := 128) b G j x := by
    blk_ext [idx t, hb, hG, hg]
  refine (congrFun (V_kv m c) _).trans ((congrArg _ e).trans ?_)
  refine (dup_at _ b G j x).trans ?_
  refine (kv_key _ _ b G g hG j _).trans ?_
  exact congrArg (fun y => aK m c b j g y) (Fin.ext hd.symm)

/-- A lane of a point's values. -/
theorem v_at (c : Dev nD) (t : Fin cfg0.N) (b : Fin 8) (g : Fin 2) (j : Fin 256) (x : Fin 128) (d : Fin 64)
    (hb : b.val = t.val % 8) (hg : g.val = t.val / 64) (hd : d.val = x.val % 64) :
    iblk m c 2 t (ix4 0 0 j x) = aV m c b j g d := by
  obtain ⟨G, hG⟩ : ∃ G : Fin 4, G.val = 2 + g.val := ⟨⟨2 + g.val, by omega⟩, rfl⟩
  blk_simp [iblk, idx t]
  have e : (win0_2.blk t).view.emb (ix4 0 0 j x) = ix4 (n0 := 8) (n1 := 4) (n2 := 256) (n3 := 128) b G j x := by
    blk_ext [idx t, hb, hG, hg]
  refine (congrFun (V_kv m c) _).trans ((congrArg _ e).trans ?_)
  refine (dup_at _ b G j x).trans ?_
  refine (kv_val _ _ b G g hG j _).trans ?_
  exact congrArg (fun y => aV m c b j g y) (Fin.ext hd.symm)

/-- An entry of a point's biases: the bias times the factor for a key that is seen, minus infinity for another. -/
theorem t_at (c : Dev nD) (t : Fin cfg0.N) (h : Fin 8) (s : Fin 4096) (a : Fin 4) (r : Fin 512) (j : Fin 256)
    (hh : h.val = t.val / 64 * 4 + a.val) (hs : s.val = t.val / 8 % 8 * 512 + r.val) :
    iblk m c 3 t (ix3 a r j) = Scalar.select (visS s.val j.val) (aB m c h s j * L) ⊥ := by
  blk_simp [iblk, idx t]
  have e : (win0_3.blk t).view.emb (ix3 a r j) = ix3 (n0 := 8) (n1 := 4096) (n2 := 256) h s j := by
    blk_ext [idx t, hh, hs]
  refine (congrFun (V_tb m c) _).trans ((congrArg _ e).trans ?_)
  exact tb_at _ h s j

/-- The kernel's score of a query and a key is the score, scaled. -/
theorem scr_point (c : Dev nD) (t : Fin cfg0.N) (b : Fin 8) (s : Fin 4096) (n : Fin 512) (r : Fin 512) (a : Fin 4) (j : Fin 256)
    (hb : b.val = t.val % 8) (hs : s.val = t.val / 8 % 8 * 512 + r.val) (hn : n.val / 64 = t.val / 64 * 4 + a.val) :
    scr (iblk m c 0 t) (iblk m c 1 t) (iblk m c 3 t) a r j =
      scoreS (fun d => aH m c b s ⟨n.val / 64 * 64 + d.val, by omega⟩) (fun d => aK m c b j ⟨n.val / 256, by omega⟩ d)
        (aB m c ⟨n.val / 64, by omega⟩ s j) (visS s.val j.val) * L := by
  have ht : t.val < 128 := t.isLt
  have ha : a.val < 4 := a.isLt
  refine Eq.trans ?_ (score_scaled _ _ _ _)
  unfold scr
  refine congrArg₂ (fun x y : EReal => x + y) (Finset.sum_congr rfl fun d _ => ?_) ?_
  · refine congrArg₂ (fun x y : EReal => x * Ideal.ofBits FTy.bf16 15872#16 * y) ?_ ?_
    · exact x_at m c t b s _ r _ hb hs (by show n.val / 64 * 64 + d.val = t.val / 64 * 256 + (64 * a.val + d.val); omega)
    · exact k_at m c t b _ j _ d hb (by show n.val / 256 = t.val / 64; omega) (by show d.val = (64 * (a.val % 2) + d.val) % 64; omega)
  · exact t_at m c t _ s a r j hn hs

/-- What a point stores is the attention of its queries. -/
theorem out_point (c : Dev nD) (t : Fin cfg0.N) (b : Fin 8) (s : Fin 4096) (n : Fin 512) (r : Fin 512) (l : Fin 256)
    (hb : b.val = t.val % 8) (hs : s.val = t.val / 8 % 8 * 512 + r.val) (hn : n.val = t.val / 64 * 256 + l.val) :
    outT (iblk m c 0 t) (iblk m c 1 t) (iblk m c 2 t) (iblk m c 3 t) r l = headS (aH m c) (aK m c) (aV m c) (aB m c) b s n := by
  have ht : t.val < 128 := t.isLt
  have hl : l.val < 256 := l.isLt
  unfold outT headS attn
  refine Finset.sum_congr rfl fun j _ => ?_
  refine congrArg₂ (fun x y : EReal => x * y) ?_ ?_
  · rw [show maskK = ⊥ from mask_bot]
    refine Eq.trans (congrArg (fun S => wgt2 ⊥ S j) (funext fun x => ?_)) (wgt2_scaled _ j)
    exact scr_point m c t b s n r _ x hb hs (by show n.val / 64 = t.val / 64 * 4 + l.val / 64; omega)
  · exact v_at m c t b _ j _ _ hb (by show n.val / 256 = t.val / 64; omega) (by show n.val % 64 = l.val % 128 % 64; omega)

/-- The kernel's result. -/
def kO (c : Dev nD) : Vec Ideal S8x4096x512 .f32 := fun i => headS (aH m c) (aK m c) (aV m c) (aB m c) (i 0) (i 1) (i 2)

/-- What the run leaves in the result's block at a point. -/
theorem outs_at (c : Dev nD) (t : Fin cfg0.N) (r : Fin 512) (l : Fin 256) :
    (outsAt0 m c t).1 (ix3 0 r l) = outT (iblk m c 0 t) (iblk m c 1 t) (iblk m c 2 t) (iblk m c 3 t) r l := by
  unfold outsAt0
  dsimp only
  exact out4 c t (iblk m c 0 t) (iblk m c 1 t) (iblk m c 2 t) (iblk m c 3 t) r l

/-- The result array at the end. -/
theorem final (c : Dev nD) : (dats m 0 c).arrAt 4 cfg0.N = kO m c := by
  refine (dats m 0 c).arrAt_eq_of_covers 4 _ (by decide +kernel) fun t hf y => ?_
  obtain ⟨r, l, rfl⟩ : ∃ r l, y = ix3 (n0 := 1) (n1 := 512) (n2 := 256) 0 r l :=
    ⟨y 1, y 2, by funext a; match a with | 0 => exact Fin.ext (by have h : (y 0).val < 1 := (y 0).isLt; show (y 0).val = 0; omega) | 1 => rfl | 2 => rfl⟩
  have ht : t.val < 128 := t.isLt
  have hr : r.val < 512 := r.isLt
  have hl : l.val < 256 := l.isLt
  blk_simp
  rw [after0_4]
  refine (outs_at m c t r l).trans ?_
  obtain ⟨B, hB⟩ : ∃ B : Fin 8, B.val = t.val % 8 := ⟨⟨t.val % 8, by omega⟩, rfl⟩
  obtain ⟨R, hR⟩ : ∃ R : Fin 4096, R.val = t.val / 8 % 8 * 512 + r.val := ⟨⟨t.val / 8 % 8 * 512 + r.val, by omega⟩, rfl⟩
  obtain ⟨N, hN⟩ : ∃ N : Fin 512, N.val = t.val / 64 * 256 + l.val := ⟨⟨t.val / 64 * 256 + l.val, by omega⟩, rfl⟩
  have e : (win0_4.blk t).view.emb (ix3 0 r l) = ix3 (n0 := 8) (n1 := 4096) (n2 := 512) B R N := by
    blk_ext [idx t, hB, hR, hN]
  refine Eq.trans ?_ (congrArg (kO m c) e).symm
  exact out_point m c t B R N r l hB hR hN

end Cert.Cmp
-- ==== Proof.Cmp.Ref.lean ====
/- The compressed attention's reference, entry by entry. -/
module

public import proofs.«01_k».proof.Proof.Gen.Reference2Ideal.Run
public import proofs.«01_k».proof.Proof.Cmp.Math
public import Idealize.ShloMosaic.Lib.Pointwise
public import Idealize.ShloMosaic.Lib.Tactic.WordOmega
public import Idealize.ShloMosaic.PureOps.Ideal.Laws
public import Idealize.ShloMosaic.PureOps.Reduce

@[expose] public section

set_option maxRecDepth 16384

noncomputable section

namespace Cert.Cmp

open Idealize.ShloMosaic Idealize.ShloMosaic.TcCoe Idealize.SL.Sem
open Cert.Reference2Ideal Cert.Reference2Ideal.Gen

/-- Which keys a query sees: the last token of the key's block is not later than the query. -/
def visR : IVec S4096x256 1 :=
  cmpi .sge (subi (broadcastInDim S4096x256 ![0, 1] bcast_S4096x1_S4096x256_0_1 (broadcastInDim S4096x1 ![0] bcast_S4096_S4096x1_0 (iotaInDim S4096 32 0))) (broadcastInDim S4096x256 ![0, 1] bcast_S1x256_S4096x256_0_1 (broadcastInDim S1x256 ![1] bcast_S256_S1x256_1 (subi (addi (muli (iotaInDim S256 32 0) (broadcastInDim S256 ![] bcast_S_S256 (constantI S_ 32 16#32))) (broadcastInDim S256 ![] bcast_S_S256 (constantI S_ 32 32#32))) (broadcastInDim S256 ![] bcast_S_S256 (constantI S_ 32 1#32)))))) (broadcastInDim S4096x256 ![] bcast_S_S4096x256 (constantI S_ 32 0#32))

/-- The scores before the mask. -/
def rawR (H : FVec Ideal S8x4096x1536 .f32) (KC : FVec Ideal S8x256x2x64 .f32) (BI : FVec Ideal S8x4096x256 .f32) : FVec Ideal S8x2x4x4096x256 .f32 :=
  addf (mulf (transpose S8x2x4x4096x256 [0, 1, 4, 3, 2] (Host.dotGeneral dot_S8x256x2x64_S8x4096x2x4x64_S8x2x256x4096x4_3_4_1_13_02_02 none KC (shapeCast S8x4096x2x4x64 (extractStridedSlice S8x4096x512 ![0, 0, 0] H slices_S8x4096x1536_S8x4096x512_0_0_0) shapeCasts_S8x4096x512_S8x4096x2x4x64)) transposes_S8x2x256x4096x4_S8x2x4x4096x256_0_1_4_3_2) (broadcastInDim S8x2x4x4096x256 ![] bcast_S_S8x2x4x4096x256 (constant S_ .f32 0x3E000000#32))) (broadcastInDim S8x2x4x4096x256 ![0, 1, 2, 3, 4] bcast_S1x2x4x4096x256_S8x2x4x4096x256_0_1_2_3_4 (broadcastInDim S1x2x4x4096x256 ![1, 2, 3, 4] bcast_S2x4x4096x256_S1x2x4x4096x256_1_2_3_4 (shapeCast S2x4x4096x256 BI shapeCasts_S8x4096x256_S2x4x4096x256)))

/-- The scores. -/
def scoreR (H : FVec Ideal S8x4096x1536 .f32) (KC : FVec Ideal S8x256x2x64 .f32) (BI : FVec Ideal S8x4096x256 .f32) : FVec Ideal S8x2x4x4096x256 .f32 :=
  select (broadcastInDim S8x2x4x4096x256 ![3, 4] bcast_S4096x256_S8x2x4x4096x256_3_4 visR) (rawR H KC BI) (broadcastInDim S8x2x4x4096x256 ![] bcast_S_S8x2x4x4096x256 (constant S_ .f32 0xFF800000#32))

/-- The largest score of each query, one more axis of length one behind. -/
def maxR (S : FVec Ideal S8x2x4x4096x256 .f32) : FVec Ideal S8x2x4x4096x1 .f32 :=
  broadcastInDim S8x2x4x4096x1 ![0, 1, 2, 3] bcast_S8x2x4x4096_S8x2x4x4096x1_0_1_2_3 (Host.reduce FloatOps.maximumf S (constant S_ .f32 0xFF800000#32) reducesTo_S8x2x4x4096x256_S8x2x4x4096_d4 h_S_)

/-- The exponentials. -/
def expR (S : FVec Ideal S8x2x4x4096x256 .f32) : FVec Ideal S8x2x4x4096x256 .f32 :=
  Host.exp (subf S (broadcastInDim S8x2x4x4096x256 ![0, 1, 2, 3, 4] bcast_S8x2x4x4096x1_S8x2x4x4096x256_0_1_2_3_4 (select (cmpf .ogt (maxR S) (broadcastInDim S8x2x4x4096x1 ![] bcast_S_S8x2x4x4096x1 (constant S_ .f32 0xFF800000#32))) (maxR S) (broadcastInDim S8x2x4x4096x1 ![] bcast_S_S8x2x4x4096x1 (constant S_ .f32 0x00000000#32)))))

/-- Their sums. -/
def denR (P : FVec Ideal S8x2x4x4096x256 .f32) : FVec Ideal S8x2x4x4096x1 .f32 :=
  broadcastInDim S8x2x4x4096x1 ![0, 1, 2, 3] bcast_S8x2x4x4096_S8x2x4x4096x1_0_1_2_3 (Host.reduceAdd P (constant S_ .f32 0x00000000#32) reducesTo_S8x2x4x4096x256_S8x2x4x4096_d4 h_S_)

/-- The weights. -/
def wgtR (P : FVec Ideal S8x2x4x4096x256 .f32) : FVec Ideal S8x2x4x4096x256 .f32 :=
  Host.divf P (broadcastInDim S8x2x4x4096x256 ![0, 1, 2, 3, 4] bcast_S8x2x4x4096x1_S8x2x4x4096x256_0_1_2_3_4 (select (cmpf .ogt (denR P) (broadcastInDim S8x2x4x4096x1 ![] bcast_S_S8x2x4x4096x1 (constant S_ .f32 0x00000000#32))) (denR P) (broadcastInDim S8x2x4x4096x1 ![] bcast_S_S8x2x4x4096x1 (constant S_ .f32 0x3F800000#32))))

/-- The heads' outputs run together. -/
def outR (W : FVec Ideal S8x2x4x4096x256 .f32) (VC : FVec Ideal S8x256x2x64 .f32) : FVec Ideal S8x4096x512 .f32 :=
  shapeCast S8x4096x512 (transpose S8x4096x2x4x64 [0, 4, 1, 3, 2] (Host.dotGeneral dot_S8x256x2x64_S8x2x4x4096x256_S8x2x64x4x4096_1_4_3_23_02_01 none VC W) transposes_S8x2x64x4x4096_S8x4096x2x4x64_0_4_1_3_2) shapeCasts_S8x4096x2x4x64_S8x4096x512

/-- The reference's result as it computes it. -/
def refO (H : FVec Ideal S8x4096x1536 .f32) (KC VC : FVec Ideal S8x256x2x64 .f32) (BI : FVec Ideal S8x4096x256 .f32) : FVec Ideal S8x4096x512 .f32 :=
  outR (wgtR (expR (scoreR H KC BI))) VC

theorem red_lift (h : S8x2x4x4096x256.Reduces [4] S8x2x4x4096) (b : Fin 8) (g : Fin 2) (e : Fin 4) (s : Fin 4096) (x : Fin 256) :
    h.lift (ix4 b g e s) x = ix5 b g e s x := by
  funext a
  refine Fin.ext ?_
  match a with
  | 0 => rfl
  | 1 => rfl
  | 2 => rfl
  | 3 => rfl
  | 4 => rfl

/-- The largest score of a query. -/
theorem reduce_at (S : FVec Ideal S8x2x4x4096x256 .f32) (b : Fin 8) (g : Fin 2) (e : Fin 4) (s : Fin 4096) :
    Host.reduce FloatOps.maximumf S (constant S_ .f32 0xFF800000#32) reducesTo_S8x2x4x4096x256_S8x2x4x4096_d4 h_S_ (ix4 b g e s) =
      Finset.fold max (⊥ : EReal) (fun x => S (ix5 b g e s x)) Finset.univ := by
  have h : S8x2x4x4096x256.Reduces [4] S8x2x4x4096 := by decide
  rw [Host.reduce_eq_fold_single FloatOps.maximumf S _ _ h]
  rw [show (S ∘ h.lift (ix4 b g e s)) = fun x : Fin 256 => S (ix5 b g e s x) from funext fun x => congrArg S (red_lift h b g e s x)]
  rw [show (constant S_ FTy.f32 0xFF800000#32 : FVec Ideal S_ .f32) (Shape.Idx.first h_S_) = (⊥ : EReal) by
    show Ideal.ofBits FTy.f32 4286578688#32 = ⊥
    simp [Ideal.ofBits, Ideal.ieee]]
  rfl

theorem max_at (S : FVec Ideal S8x2x4x4096x256 .f32) (b : Fin 8) (g : Fin 2) (e : Fin 4) (s : Fin 4096) :
    maxR S (ix5 b g e s 0) = Finset.fold max (⊥ : EReal) (fun x => S (ix5 b g e s x)) Finset.univ := by
  refine Eq.trans ?_ (reduce_at S b g e s)
  unfold maxR
  generalize Host.reduce FloatOps.maximumf S (constant S_ .f32 0xFF800000#32) reducesTo_S8x2x4x4096x256_S8x2x4x4096_d4 h_S_ = A
  pointwise

/-- An exponential, with the largest score given. -/
theorem exp_of (S : FVec Ideal S8x2x4x4096x256 .f32) (M : FVec Ideal S8x2x4x4096x1 .f32) (b : Fin 8) (g : Fin 2) (e : Fin 4) (s : Fin 4096) (j : Fin 256) :
    (Host.exp (subf S (broadcastInDim S8x2x4x4096x256 ![0, 1, 2, 3, 4] bcast_S8x2x4x4096x1_S8x2x4x4096x256_0_1_2_3_4
      (select (cmpf .ogt M (broadcastInDim S8x2x4x4096x1 ![] bcast_S_S8x2x4x4096x1 (constant S_ .f32 0xFF800000#32))) M
        (broadcastInDim S8x2x4x4096x1 ![] bcast_S_S8x2x4x4096x1 (constant S_ .f32 0x00000000#32))))) : FVec Ideal S8x2x4x4096x256 .f32) (ix5 b g e s j)
      = Ideal.exp (S (ix5 b g e s j) - if ⊥ < M (ix5 b g e s 0) then M (ix5 b g e s 0) else 0) := by
  pointwise
  rw [show Ideal.ofBits FTy.f32 4286578688#32 = ⊥ by simp [Ideal.ofBits, Ideal.ieee]]

theorem exp_at (S : FVec Ideal S8x2x4x4096x256 .f32) (b : Fin 8) (g : Fin 2) (e : Fin 4) (s : Fin 4096) (j : Fin 256) :
    expR S (ix5 b g e s j) = Ideal.exp (S (ix5 b g e s j) - top0 (fun x => S (ix5 b g e s x))) := by
  refine (exp_of S (maxR S) b g e s j).trans ?_
  rw [max_at]
  rfl

theorem wgtR_at (P : FVec Ideal S8x2x4x4096x256 .f32) (b : Fin 8) (g : Fin 2) (e : Fin 4) (s : Fin 4096) (j : Fin 256) :
    wgtR P (ix5 b g e s j) = Ideal.div (P (ix5 b g e s j)) (if 0 < ∑ x, P (ix5 b g e s x) then ∑ x, P (ix5 b g e s x) else 1) := by
  pointwise [wgtR, denR]

/-- The weights are the softmax of the scores. -/
theorem weights_at (S : FVec Ideal S8x2x4x4096x256 .f32) (b : Fin 8) (g : Fin 2) (e : Fin 4) (s : Fin 4096) (j : Fin 256) :
    wgtR (expR S) (ix5 b g e s j) = wgt (fun x => S (ix5 b g e s x)) j := by
  rw [wgtR_at]
  simp only [exp_at]
  rfl

theorem vis_at (s : Fin 4096) (j : Fin 256) : visR (ix2 s j) = visS s.val j.val := by
  pointwise [visR, visS]

theorem raw_at (H : FVec Ideal S8x4096x1536 .f32) (KC : FVec Ideal S8x256x2x64 .f32) (BI : FVec Ideal S8x4096x256 .f32)
    (b : Fin 8) (g : Fin 2) (e : Fin 4) (s : Fin 4096) (j : Fin 256) :
    rawR H KC BI (ix5 b g e s j) = (∑ d : Fin 64, KC (ix4 b j g d) * H (ix3 b s ⟨g.val * 256 + e.val * 64 + d.val, by omega⟩)) * eighth +
      BI (ix3 ⟨g.val * 4 + e.val, by omega⟩ s j) := by
  pointwise [rawR]

theorem select_of (V : IVec S4096x256 1) (R : FVec Ideal S8x2x4x4096x256 .f32) (b : Fin 8) (g : Fin 2) (e : Fin 4) (s : Fin 4096) (j : Fin 256) :
    (select (broadcastInDim S8x2x4x4096x256 ![3, 4] bcast_S4096x256_S8x2x4x4096x256_3_4 V) R
      (broadcastInDim S8x2x4x4096x256 ![] bcast_S_S8x2x4x4096x256 (constant S_ .f32 0xFF800000#32)) : FVec Ideal S8x2x4x4096x256 .f32) (ix5 b g e s j)
      = Scalar.select (V (ix2 s j)) (R (ix5 b g e s j)) ⊥ := by
  pointwise
  rw [show Ideal.ofBits FTy.f32 4286578688#32 = ⊥ by simp [Ideal.ofBits, Ideal.ieee]]

theorem score_at (H : FVec Ideal S8x4096x1536 .f32) (KC : FVec Ideal S8x256x2x64 .f32) (BI : FVec Ideal S8x4096x256 .f32)
    (b : Fin 8) (g : Fin 2) (e : Fin 4) (s : Fin 4096) (j : Fin 256) :
    scoreR H KC BI (ix5 b g e s j) = scoreS (fun d => H (ix3 b s ⟨g.val * 256 + e.val * 64 + d.val, by omega⟩)) (fun d => KC (ix4 b j g d))
      (BI (ix3 ⟨g.val * 4 + e.val, by omega⟩ s j)) (visS s.val j.val) := by
  refine (select_of visR (rawR H KC BI) b g e s j).trans ?_
  rw [vis_at, raw_at]
  unfold scoreS
  refine congrArg (fun x => Scalar.select _ (x * eighth + _) ⊥) (Finset.sum_congr rfl fun d _ => mul_comm _ _)

theorem out_at (W : FVec Ideal S8x2x4x4096x256 .f32) (VC : FVec Ideal S8x256x2x64 .f32) (b : Fin 8) (s : Fin 4096) (n : Fin 512) :
    outR W VC (ix3 b s n) = ∑ x : Fin 256, VC (ix4 b x ⟨n.val / 256, by omega⟩ ⟨n.val % 64, by omega⟩) *
      W (ix5 b ⟨n.val / 256, by omega⟩ ⟨n.val / 64 % 4, by omega⟩ s x) := by
  pointwise [outR]

/-- One entry of the reference's result. -/
theorem ref_at (H : FVec Ideal S8x4096x1536 .f32) (KC VC : FVec Ideal S8x256x2x64 .f32) (BI : FVec Ideal S8x4096x256 .f32)
    (b : Fin 8) (s : Fin 4096) (n : Fin 512) :
    refO H KC VC BI (ix3 b s n) = headS (fun b s k => H (ix3 b s k)) (fun b j g d => KC (ix4 b j g d)) (fun b j g d => VC (ix4 b j g d))
      (fun h s j => BI (ix3 h s j)) b s n := by
  refine (out_at _ VC b s n).trans ?_
  unfold headS attn
  refine Finset.sum_congr rfl fun x _ => (mul_comm (_ : EReal) _).trans ?_
  refine congrArg (· * VC (ix4 b x ⟨n.val / 256, by omega⟩ ⟨n.val % 64, by omega⟩)) ?_
  rw [weights_at]
  refine congrArg (fun S => wgt S x) (funext fun j => ?_)
  rw [score_at]
  rw [show (⟨n.val / 256 * 4 + n.val / 64 % 4, by omega⟩ : Fin 8) = ⟨n.val / 64, by omega⟩ from Fin.ext (by show n.val / 256 * 4 + n.val / 64 % 4 = n.val / 64; omega)]
  refine congrArg (fun q => scoreS q _ _ _) (funext fun d => congrArg (fun k => H (ix3 b s k)) (Fin.ext ?_))
  show n.val / 256 * 256 + n.val / 64 % 4 * 64 + d.val = n.val / 64 * 64 + d.val
  omega

theorem res_eq (m : (ℓ : Loc nD τ sig) → Buf (Elt Ideal) ℓ) (c : Dev nD) :
    Value.res_main_v43 m c = refO (m ((c.tc : Thread nD τ).loc main_arg0)) (m ((c.tc : Thread nD τ).loc main_arg1))
      (m ((c.tc : Thread nD τ).loc main_arg2)) (m ((c.tc : Thread nD τ).loc main_arg3)) := rfl

end Cert.Cmp
-- ==== Proof.Cmp.Claims.lean ====
/- The claims about the compressed attention: the kernel's blocks (Reads.lean) and the reference's array (Ref.lean) are the same heads `headS`
   (Math.lean), entry by entry. -/
module

public import proofs.«01_k».proof.Defs
public import proofs.«01_k».proof.Proof.Gen.Kernel2.Frame
public import proofs.«01_k».proof.Proof.Cmp.Reads
public import proofs.«01_k».proof.Proof.Cmp.Ref
public import Idealize.ShloMosaic.Adequacy
public import Idealize.ShloMosaic.Init
public import Idealize.ShloMosaic.Lib.Quiescent

@[expose] public section

set_option maxRecDepth 16384

noncomputable section

namespace Cert.Cmp

open Idealize.ShloMosaic Idealize.SL.Sem

theorem quiescent_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves_Kernel2_Kernel2Ideal : Cert.preserves_Kernel2_Kernel2Ideal :=
  IdealRules.named_const.statement Cert.Kernel2Ideal.κ "mask" .f32 0xF149F2CA#32 ⊥ rfl

theorem algebraic_Kernel2Ideal_Reference2Ideal : Cert.algebraic_Kernel2Ideal_Reference2Ideal := by
  intro m ρ m' ρ' _ hagree
  refine ⟨fun c => kO m c, ?_, ?_⟩
  · exact (θ_run Cert.Kernel2Ideal.defs _ _).mono (fun _ h c => ⟨(h c).1.trans (final m c), (h c).2.2⟩)
      (Cert.Kernel2Ideal.Value.run_blocks (F := Ideal) m ρ)
  · refine (θ_run Cert.Reference2Ideal.defs _ _).mono (fun _ h c => ⟨?_, (h c).2⟩) (Cert.Reference2Ideal.Value.run (F := Ideal) m' ρ')
    refine (h c).1.trans ?_
    refine (res_eq m' c).trans ?_
    rw [(hagree c).1, (hagree c).2.1, (hagree c).2.2.1, (hagree c).2.2.2]
    funext i
    obtain ⟨b, s, n, rfl⟩ : ∃ b s n, i = ix3 (n0 := 8) (n1 := 4096) (n2 := 512) b s n :=
      ⟨i 0, i 1, i 2, by funext a; match a with | 0 => rfl | 1 => rfl | 2 => rfl⟩
    exact ref_at _ _ _ _ b s n

end Cert.Cmp
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel2.Frame
public import proofs.«01_k».proof.Proof.Gen.Kernel2Ideal.Value
public import proofs.«01_k».proof.Proof.Gen.Reference2Ideal.Run
public import Idealize.ShloMosaic.Adequacy
public import Idealize.ShloMosaic.Init
public import Idealize.ShloMosaic.Lib.Quiescent
public import proofs.«01_k».proof.Proof.Ffn.Reads
public import proofs.«01_k».proof.Proof.Ffn.Ref
public import proofs.«01_k».proof.Proof.In.Claims
public import proofs.«01_k».proof.Proof.Cmp.Claims

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine Eq.trans ?_ (Cert.Ffn.final m c).symm
  funext i
  have h0 : (i 0).val < 32768 := (i 0).isLt
  obtain ⟨r, j, rfl⟩ : ∃ r j, i = ix2 (n0 := 32768) (n1 := 1024) r j := ⟨i 0, i 1, by funext a; match a with | 0 => rfl | 1 => rfl⟩
  refine (Cert.Ffn.ref_at m' c ⟨r.val / 4096, by omega⟩ ⟨r.val % 4096, by omega⟩ j r (by show r.val = r.val / 4096 * 4096 + r.val % 4096; omega)).trans ?_
  simp only [hagree c]
  rfl

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel2.Gen.facts, Cert.Kernel2Ideal.Gen.facts, Cert.Reference2Ideal.Gen.facts,
  fun m ρ _ => Cert.Kernel.Gen.frame m ρ, fun m ρ _ => Cert.KernelIdeal.Gen.frame m ρ, quiescent_ReferenceIdeal,
  fun m ρ _ => Cert.Kernel3.Gen.frame m ρ, fun m ρ _ => Cert.Kernel3Ideal.Gen.frame m ρ, Cert.In.quiescent_Reference3Ideal,
  fun m ρ _ => Cert.Kernel4.Gen.frame m ρ, fun m ρ _ => Cert.Kernel4Ideal.Gen.frame m ρ, Cert.In.quiescent_Reference4Ideal,
  fun m ρ _ => Cert.Kernel2.Gen.frame m ρ, fun m ρ _ => Cert.Kernel2Ideal.Gen.frame m ρ, Cert.Cmp.quiescent_Reference2Ideal,
  (trivial : preserves_Kernel_KernelIdeal), algebraic_KernelIdeal_ReferenceIdeal,
  (trivial : preserves_Kernel3_Kernel3Ideal), Cert.In.algebraic_Kernel3Ideal_Reference3Ideal,
  (trivial : preserves_Kernel4_Kernel4Ideal), Cert.In.algebraic_Kernel4Ideal_Reference4Ideal,
  Cert.Cmp.preserves_Kernel2_Kernel2Ideal, Cert.Cmp.algebraic_Kernel2Ideal_Reference2Ideal⟩

end Cert.Proof

end
